-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_half_width" .f32 0x3E124925#32 ((1 / 7 : ℝ) : EReal)
  ∧ IdealRules.named_const.Statement Cert.KernelIdeal.κ "half_l" .f32 0x40E03958#32 ((7007 / 1000 : ℝ) : EReal)
  ∧ IdealRules.named_const.Statement Cert.KernelIdeal.κ "inv_n" .f32 0x37AAAAAB#32 ((1 / 49152 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1024x768 : Shape := ⟨3, ![16, 1024, 768]⟩
abbrev S3x768 : Shape := ⟨2, ![3, 768]⟩
abbrev S3 : Shape := ⟨1, ![3]⟩
abbrev S768x3 : Shape := ⟨2, ![768, 3]⟩
abbrev S768 : Shape := ⟨1, ![768]⟩
abbrev S16384x768 : Shape := ⟨2, ![16384, 768]⟩
abbrev S_ : Shape := ⟨0, ![]⟩
abbrev S768x128 : Shape := ⟨2, ![768, 128]⟩
abbrev S1 : Shape := ⟨1, ![1]⟩
abbrev S1x128 : Shape := ⟨2, ![1, 128]⟩
abbrev S2 : Shape := ⟨1, ![2]⟩
abbrev S8x768 : Shape := ⟨2, ![8, 768]⟩
abbrev S1x768 : Shape := ⟨2, ![1, 768]⟩
abbrev S1x1 : Shape := ⟨2, ![1, 1]⟩
abbrev S4x2048x768 : Shape := ⟨3, ![4, 2048, 768]⟩
abbrev S4 : Shape := ⟨1, ![4]⟩
abbrev S1x2048x768 : Shape := ⟨3, ![1, 2048, 768]⟩
abbrev S2048x768 : Shape := ⟨2, ![2048, 768]⟩
abbrev S2048x128 : Shape := ⟨2, ![2048, 128]⟩
abbrev S1x2048x128 : Shape := ⟨3, ![1, 2048, 128]⟩
abbrev S1x1x1 : Shape := ⟨3, ![1, 1, 1]⟩
abbrev S2048x1 : Shape := ⟨2, ![2048, 1]⟩

abbrev nBuf : Space → Nat
  | .hbm => 40
  | .vmem => 8
  | .smem => 0
  | _ => 0

abbrev bufTy : (tb : Table) → Fin (tcTables nBuf tb) → BufTy
  | .hbm, ⟨0, _⟩ => ⟨S16x1024x768, .f32⟩
  | .hbm, ⟨1, _⟩ => ⟨S3x768, .f32⟩
  | .hbm, ⟨2, _⟩ => ⟨S3, .f32⟩
  | .hbm, ⟨3, _⟩ => ⟨S768x3, .f32⟩
  | .hbm, ⟨4, _⟩ => ⟨S768, .f32⟩
  | .hbm, ⟨5, _⟩ => ⟨S3, .f32⟩
  | .hbm, ⟨6, _⟩ => ⟨S16384x768, .f32⟩
  | .hbm, ⟨7, _⟩ => ⟨S_, .f32⟩
  | .hbm, ⟨8, _⟩ => ⟨S768x128, .f32⟩
  | .hbm, ⟨9, _⟩ => ⟨S768x3, .f32⟩
  | .hbm, ⟨10, _⟩ => ⟨S_, .i32⟩
  | .hbm, ⟨11, _⟩ => ⟨S1, .i32⟩
  | .hbm, ⟨12, _⟩ => ⟨S768x128, .f32⟩
  | .hbm, ⟨13, _⟩ => ⟨S_, .f32⟩
  | .hbm, ⟨14, _⟩ => ⟨S1x128, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S1x128, .f32⟩
  | .hbm, ⟨21, _⟩ => ⟨S_, .f32⟩
  | .hbm, ⟨22, _⟩ => ⟨S8x768, .f32⟩
  | .hbm, ⟨23, _⟩ => ⟨S3x768, .f32⟩
  | .hbm, ⟨24, _⟩ => ⟨S_, .i32⟩
  | .hbm, ⟨25, _⟩ => ⟨S1, .i32⟩
  | .hbm, ⟨26, _⟩ => ⟨S8x768, .f32⟩
  | .hbm, ⟨27, _⟩ => ⟨S1x768, .f32⟩
  | .hbm, ⟨28, _⟩ => ⟨S_, .f32⟩
  | .hbm, ⟨29, _⟩ => ⟨S1x128, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S1x128, .f32⟩
  | .hbm, ⟨36, _⟩ => ⟨S16384x768, .f32⟩
  | .hbm, ⟨37, _⟩ => ⟨S1x1, .f32⟩
  | .hbm, ⟨38, _⟩ => ⟨S16x1024x768, .f32⟩
  | .hbm, ⟨39, _⟩ => ⟨S_, .f32⟩
  | .local _ .vmem, ⟨0, _⟩ => ⟨S768x128, .f32⟩
  | .local _ .vmem, ⟨1, _⟩ => ⟨S1x128, .f32⟩
  | .local _ .vmem, ⟨2, _⟩ => ⟨S8x768, .f32⟩
  | .local _ .vmem, ⟨3, _⟩ => ⟨S1x768, .f32⟩
  | .local _ .vmem, ⟨4, _⟩ => ⟨S1x128, .f32⟩
  | .local _ .vmem, ⟨5, _⟩ => ⟨S1x1, .f32⟩
  | .local _ .vmem, ⟨6, _⟩ => ⟨S4x2048x768, .f32⟩
  | .local _ .vmem, ⟨7, _⟩ => ⟨S4x2048x768, .f32⟩
  | _, _ => ⟨S16x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_5 : Ref sig .tc := ⟨.hbm, 28, rfl⟩
abbrev main_v15 : Ref sig .tc := ⟨.hbm, 29, rfl⟩
abbrev main_c_6 : Ref sig .tc := ⟨.hbm, 30, rfl⟩
abbrev main_v16 : Ref sig .tc := ⟨.hbm, 31, rfl⟩
abbrev main_c_7 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_v21 : Ref sig .tc := ⟨.hbm, 38, rfl⟩
abbrev main_v22 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32_30 : BitVec 32 := 0#32
  let c8_i32 : BitVec 32 := 8#32
  let v48 : BitVec 32 := Scalar.addi c0_i32_30 c8_i32
  let c1_i32_31 : BitVec 32 := 1#32
  ⟨c0_i32_30, v48, c1_i32_31⟩
def k0_off1 (k0_t1 : Fin k0_t1_loop.trips) : Fin 1 → Nat :=
  let c0_i32_30 : BitVec 32 := 0#32
  let c1_i32_31 : BitVec 32 := 1#32
  let arg12 : BitVec 32 := Scf.iv c0_i32_30 c1_i32_31 k0_t1
  let c4_i32 : BitVec 32 := 4#32
  let v73 : BitVec 32 := Scalar.remsi arg12 c4_i32
  ![v73.toNat]
def k0_off2 (k0_t1 : Fin k0_t1_loop.trips) : Fin 3 → Nat :=
  let c0_i32_30 : BitVec 32 := 0#32
  let c1_i32_31 : BitVec 32 := 1#32
  let arg12 : BitVec 32 := Scf.iv c0_i32_30 c1_i32_31 k0_t1
  let c4_i32 : BitVec 32 := 4#32
  let v73 : BitVec 32 := Scalar.remsi arg12 c4_i32
  let c0_i32_57 : BitVec 32 := 0#32
  let c0_i32_58 : BitVec 32 := 0#32
  ![v73.toNat, 0, 0]
def k0_off3 (k0_t1 : Fin k0_t1_loop.trips) : Fin 2 → Nat :=
  let c0_i32_30 : BitVec 32 := 0#32
  let c1_i32_31 : BitVec 32 := 1#32
  let arg12 : BitVec 32 := Scf.iv c0_i32_30 c1_i32_31 k0_t1
  let c2048_i32_56 : BitVec 32 := 2048#32
  let v74 : BitVec 32 := Scalar.muli arg12 c2048_i32_56
  let c0_i32_59 : BitVec 32 := 0#32
  ![v74.toNat, 0]
def k0_off4 (k0_t1 : Fin k0_t1_loop.trips) : Fin 3 → Nat :=
  let c0_i32_30 : BitVec 32 := 0#32
  let c1_i32_31 : BitVec 32 := 1#32
  let arg12 : BitVec 32 := Scf.iv c0_i32_30 c1_i32_31 k0_t1
  let c4_i32 : BitVec 32 := 4#32
  let v73 : BitVec 32 := Scalar.remsi arg12 c4_i32
  let v80 : Index := Scalar.indexCast v73
  let c0_60 : Index := 0#32
  let c0_61 : Index := 0#32
  ![v80.toNat, 0, 0]
def k0_cond1 (k0_t1 : Fin k0_t1_loop.trips) : BitVec 1 :=
  let c0_i32_30 : BitVec 32 := 0#32
  let c1_i32_31 : BitVec 32 := 1#32
  let arg12 : BitVec 32 := Scf.iv c0_i32_30 c1_i32_31 k0_t1
  let c4_i32_67 : BitVec 32 := 4#32
  let v105 : BitVec 1 := Scalar.cmpi .sge arg12 c4_i32_67
  let v106 : BitVec 32 := Scalar.extui v105
  let c0_i32_68 : BitVec 32 := 0#32
  let v107 : BitVec 1 := Scalar.cmpi .ne v106 c0_i32_68
  v107

def k0_off5 (k0_t1 : Fin k0_t1_loop.trips) : Fin 1 → Nat :=
  let c0_i32_30 : BitVec 32 := 0#32
  let c1_i32_31 : BitVec 32 := 1#32
  let arg12 : BitVec 32 := Scf.iv c0_i32_30 c1_i32_31 k0_t1
  let c4_i32 : BitVec 32 := 4#32
  let v73 : BitVec 32 := Scalar.remsi arg12 c4_i32
  ![v73.toNat]
def k0_off6 (k0_t1 : Fin k0_t1_loop.trips) : Fin 2 → Nat :=
  let c0_i32_30 : BitVec 32 := 0#32
  let c1_i32_31 : BitVec 32 := 1#32
  let arg12 : BitVec 32 := Scf.iv c0_i32_30 c1_i32_31 k0_t1
  let c4_i32_78 : BitVec 32 := 4#32
  let v141 : BitVec 32 := Scalar.subi arg12 c4_i32_78
  let c2048_i32_79 : BitVec 32 := 2048#32
  let v142 : BitVec 32 := Scalar.muli v141 c2048_i32_79
  let c0_i32_80 : BitVec 32 := 0#32
  ![v142.toNat, 0]
def k0_off7 (k0_t1 : Fin k0_t1_loop.trips) : Fin 3 → Nat :=
  let c0_i32_30 : BitVec 32 := 0#32
  let c1_i32_31 : BitVec 32 := 1#32
  let arg12 : BitVec 32 := Scf.iv c0_i32_30 c1_i32_31 k0_t1
  let c4_i32 : BitVec 32 := 4#32
  let v73 : BitVec 32 := Scalar.remsi arg12 c4_i32
  let c0_i32_81 : BitVec 32 := 0#32
  let c0_i32_82 : BitVec 32 := 0#32
  ![v73.toNat, 0, 0]
def k0_cond2 (k0_t1 : Fin k0_t1_loop.trips) : BitVec 1 :=
  let c0_i32_30 : BitVec 32 := 0#32
  let c1_i32_31 : BitVec 32 := 1#32
  let arg12 : BitVec 32 := Scf.iv c0_i32_30 c1_i32_31 k0_t1
  let c4_i32_75 : BitVec 32 := 4#32
  let v137 : BitVec 32 := Scalar.addi arg12 c4_i32_75
  let c8_i32_76 : BitVec 32 := 8#32
  let v138 : BitVec 1 := Scalar.cmpi .slt v137 c8_i32_76
  let v139 : BitVec 32 := Scalar.extui v138
  let c0_i32_77 : BitVec 32 := 0#32
  let v140 : BitVec 1 := Scalar.cmpi .ne v139 c0_i32_77
  v140

def k0_off8 (k0_t1 : Fin k0_t1_loop.trips) : Fin 1 → Nat :=
  let c0_i32_30 : BitVec 32 := 0#32
  let c1_i32_31 : BitVec 32 := 1#32
  let arg12 : BitVec 32 := Scf.iv c0_i32_30 c1_i32_31 k0_t1
  let c4_i32 : BitVec 32 := 4#32
  let v73 : BitVec 32 := Scalar.remsi arg12 c4_i32
  ![v73.toNat]
def k0_off9 (k0_t1 : Fin k0_t1_loop.trips) : Fin 3 → Nat :=
  let c0_i32_30 : BitVec 32 := 0#32
  let c1_i32_31 : BitVec 32 := 1#32
  let arg12 : BitVec 32 := Scf.iv c0_i32_30 c1_i32_31 k0_t1
  let c4_i32 : BitVec 32 := 4#32
  let v73 : BitVec 32 := Scalar.remsi arg12 c4_i32
  let c0_i32_80 : BitVec 32 := 0#32
  let c0_i32_81 : BitVec 32 := 0#32
  ![v73.toNat, 0, 0]
def k0_off10 (k0_t1 : Fin k0_t1_loop.trips) : Fin 2 → Nat :=
  let c0_i32_30 : BitVec 32 := 0#32
  let c1_i32_31 : BitVec 32 := 1#32
  let arg12 : BitVec 32 := Scf.iv c0_i32_30 c1_i32_31 k0_t1
  let c4_i32_78 : BitVec 32 := 4#32
  let v141 : BitVec 32 := Scalar.addi arg12 c4_i32_78
  let c2048_i32_79 : BitVec 32 := 2048#32
  let v142 : BitVec 32 := Scalar.muli v141 c2048_i32_79
  let c0_i32_82 : BitVec 32 := 0#32
  ![v142.toNat, 0]
abbrev stage0_0 : Fin 1 → Memref sig .tc .vmem S768x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "half_l" => some ((7007 / 1000 : ℝ) : EReal)
  | "inv_half_width" => some ((1 / 7 : ℝ) : EReal)
  | "inv_n" => some ((1 / 49152 : ℝ) : EReal)
  | _ => none
-- ==== ReferenceIdeal.lean ====
abbrev S16x1024x768 : Shape := ⟨3, ![16, 1024, 768]⟩
abbrev S3x768 : Shape := ⟨2, ![3, 768]⟩
abbrev S3 : Shape := ⟨1, ![3]⟩
abbrev S768x3 : Shape := ⟨2, ![768, 3]⟩
abbrev S768 : Shape := ⟨1, ![768]⟩
abbrev S_ : Shape := ⟨0, ![]⟩
abbrev S16x1024x3 : Shape := ⟨3, ![16, 1024, 3]⟩
abbrev S1x1x3 : Shape := ⟨3, ![1, 1, 3]⟩
abbrev S1x1x768 : Shape := ⟨3, ![1, 1, 768]⟩

abbrev nBuf : Space → Nat
  | .hbm => 110
  | .vmem => 0
  | .smem => 0
  | _ => 0

abbrev bufTy : (tb : Table) → Fin (tcTables nBuf tb) → BufTy
  | .hbm, ⟨0, _⟩ => ⟨S16x1024x768, .f32⟩
  | .hbm, ⟨1, _⟩ => ⟨S3x768, .f32⟩
  | .hbm, ⟨2, _⟩ => ⟨S3, .f32⟩
  | .hbm, ⟨3, _⟩ => ⟨S768x3, .f32⟩
  | .hbm, ⟨4, _⟩ => ⟨S768, .f32⟩
  | .hbm, ⟨5, _⟩ => ⟨S3, .f32⟩
  | .hbm, ⟨6, _⟩ => ⟨S3, .i32⟩
  | .hbm, ⟨7, _⟩ => ⟨S3, .f32⟩
  | .hbm, ⟨8, _⟩ => ⟨S_, .f32⟩
  | .hbm, ⟨9, _⟩ => ⟨S3, .f32⟩
  | .hbm, ⟨10, _⟩ => ⟨S3, .f32⟩
  | .hbm, ⟨11, _⟩ => ⟨S3, .f32⟩
  | .hbm, ⟨12, _⟩ => ⟨S3, .f32⟩
  | .hbm, ⟨13, _⟩ => ⟨S3, .i1⟩
  | .hbm, ⟨14, _⟩ => ⟨S3, .f32⟩
  | .hbm, ⟨15, _⟩ => ⟨S3, .f32⟩
  | .hbm, ⟨16, _⟩ => ⟨S3, .f32⟩
  | .hbm, ⟨17, _⟩ => ⟨S3, .f32⟩
  | .hbm, ⟨18, _⟩ => ⟨S3, .f32⟩
  | .hbm, ⟨19, _⟩ => ⟨S3, .f32⟩
  | .hbm, ⟨20, _⟩ => ⟨S3, .f32⟩
  | .hbm, ⟨21, _⟩ => ⟨S3, .f32⟩
  | .hbm, ⟨22, _⟩ => ⟨S768x3, .f32⟩
  | .hbm, ⟨23, _⟩ => ⟨S16x1024x3, .f32⟩
  | .hbm, ⟨24, _⟩ => ⟨S1x1x3, .f32⟩
  | .hbm, ⟨25, _⟩ => ⟨S16x1024x3, .f32⟩
  | .hbm, ⟨26, _⟩ => ⟨S16x1024x3, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S3, .f32⟩
  | .hbm, ⟨32, _⟩ => ⟨S3, .f32⟩
  | .hbm, ⟨33, _⟩ => ⟨S_, .f32⟩
  | .hbm, ⟨34, _⟩ => ⟨S_, .f32⟩
  | .hbm, ⟨35, _⟩ => ⟨S3, .f32⟩
  | .hbm, ⟨36, _⟩ => ⟨S3, .f32⟩
  | .hbm, ⟨37, _⟩ => ⟨S_, .f32⟩
  | .hbm, ⟨38, _⟩ => ⟨S3, .f32⟩
  | .hbm, ⟨39, _⟩ => ⟨S3, .f32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S3, .i32⟩
  | .hbm, ⟨47, _⟩ => ⟨S3, .i32⟩
  | .hbm, ⟨48, _⟩ => ⟨S_, .i32⟩
  | .hbm, ⟨49, _⟩ => ⟨S3, .i32⟩
  | .hbm, ⟨50, _⟩ => ⟨S3, .i1⟩
  | .hbm, ⟨51, _⟩ => ⟨S_, .i32⟩
  | .hbm, ⟨52, _⟩ => ⟨S3, .i32⟩
  | .hbm, ⟨53, _⟩ => ⟨S3, .i1⟩
  | .hbm, ⟨54, _⟩ => ⟨S_, .i32⟩
  | .hbm, ⟨55, _⟩ => ⟨S_, .i1⟩
  | .hbm, ⟨56, _⟩ => ⟨S3, .i1⟩
  | .hbm, ⟨57, _⟩ => ⟨S3, .i1⟩
  | .hbm, ⟨58, _⟩ => ⟨S3, .i1⟩
  | .hbm, ⟨59, _⟩ => ⟨S3, .i32⟩
  | .hbm, ⟨60, _⟩ => ⟨S3, .i32⟩
  | .hbm, ⟨61, _⟩ => ⟨S3, .i32⟩
  | .hbm, ⟨62, _⟩ => ⟨S_, .i32⟩
  | .hbm, ⟨63, _⟩ => ⟨S3, .i32⟩
  | .hbm, ⟨64, _⟩ => ⟨S3, .i1⟩
  | .hbm, ⟨65, _⟩ => ⟨S_, .f32⟩
  | .hbm, ⟨66, _⟩ => ⟨S_, .f32⟩
  | .hbm, ⟨67, _⟩ => ⟨S3, .f32⟩
  | .hbm, ⟨68, _⟩ => ⟨S3, .f32⟩
  | .hbm, ⟨69, _⟩ => ⟨S3, .f32⟩
  | .hbm, ⟨70, _⟩ => ⟨S3, .f32⟩
  | .hbm, ⟨71, _⟩ => ⟨S3, .f32⟩
  | .hbm, ⟨72, _⟩ => ⟨S3, .f32⟩
  | .hbm, ⟨73, _⟩ => ⟨S1x1x3, .f32⟩
  | .hbm, ⟨74, _⟩ => ⟨S16x1024x3, .f32⟩
  | .hbm, ⟨75, _⟩ => ⟨S16x1024x3, .f32⟩
  | .hbm, ⟨76, _⟩ => ⟨S1x1x3, .f32⟩
  | .hbm, ⟨77, _⟩ => ⟨S16x1024x3, .f32⟩
  | .hbm, ⟨78, _⟩ => ⟨S16x1024x3, .f32⟩
  | .hbm, ⟨79, _⟩ => ⟨S16x1024x3, .f32⟩
  | .hbm, ⟨80, _⟩ => ⟨S1x1x3, .f32⟩
  | .hbm, ⟨81, _⟩ => ⟨S16x1024x3, .f32⟩
  | .hbm, ⟨82, _⟩ => ⟨S16x1024x3, .f32⟩
  | .hbm, ⟨83, _⟩ => ⟨S1x1x3, .f32⟩
  | .hbm, ⟨84, _⟩ => ⟨S16x1024x3, .f32⟩
  | .hbm, ⟨85, _⟩ => ⟨S16x1024x3, .f32⟩
  | .hbm, ⟨86, _⟩ => ⟨S16x1024x3, .f32⟩
  | .hbm, ⟨87, _⟩ => ⟨S16x1024x3, .f32⟩
  | .hbm, ⟨88, _⟩ => ⟨S16x1024x3, .f32⟩
  | .hbm, ⟨89, _⟩ => ⟨S_, .f32⟩
  | .hbm, ⟨90, _⟩ => ⟨S3, .f32⟩
  | .hbm, ⟨91, _⟩ => ⟨S3, .f32⟩
  | .hbm, ⟨92, _⟩ => ⟨S3, .f32⟩
  | .hbm, ⟨93, _⟩ => ⟨S1x1x3, .f32⟩
  | .hbm, ⟨94, _⟩ => ⟨S16x1024x3, .f32⟩
  | .hbm, ⟨95, _⟩ => ⟨S16x1024x3, .f32⟩
  | .hbm, ⟨96, _⟩ => ⟨S1x1x3, .f32⟩
  | .hbm, ⟨97, _⟩ => ⟨S16x1024x3, .f32⟩
  | .hbm, ⟨98, _⟩ => ⟨S16x1024x3, .f32⟩
  | .hbm, ⟨99, _⟩ => ⟨S16x1024x3, .f32⟩
  | .hbm, ⟨100, _⟩ => ⟨S16x1024x3, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S3x768, .f32⟩
  | .hbm, ⟨106, _⟩ => ⟨S16x1024x768, .f32⟩
  | .hbm, ⟨107, _⟩ => ⟨S1x1x768, .f32⟩
  | .hbm, ⟨108, _⟩ => ⟨S16x1024x768, .f32⟩
  | .hbm, ⟨109, _⟩ => ⟨S16x1024x768, .f32⟩
  | _, _ => ⟨S16x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_call0_cst : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_cst_0 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_cst_2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_3 : Ref sig .tc := ⟨.hbm, 37, rfl⟩
abbrev main_v13 : Ref sig .tc := ⟨.hbm, 38, rfl⟩
abbrev main_v14 : Ref sig .tc := ⟨.hbm, 39, rfl⟩
abbrev main_c_4 : Ref sig .tc := ⟨.hbm, 40, rfl⟩
abbrev main_call1_v0 : Ref sig .tc := ⟨.hbm, 41, rfl⟩
abbrev main_call1_c : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_c_1 : Ref sig .tc := ⟨.hbm, 48, rfl⟩
abbrev main_call1_v5 : Ref sig .tc := ⟨.hbm, 49, rfl⟩
abbrev main_call1_v6 : Ref sig .tc := ⟨.hbm, 50, rfl⟩
abbrev main_call1_c_2 : Ref sig .tc := ⟨.hbm, 51, rfl⟩
abbrev main_call1_v7 : Ref sig .tc := ⟨.hbm, 52, rfl⟩
abbrev main_call1_v8 : Ref sig .tc := ⟨.hbm, 53, rfl⟩
abbrev main_call1_c_3 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_v15 : Ref sig .tc := ⟨.hbm, 61, rfl⟩
abbrev main_c_5 : Ref sig .tc := ⟨.hbm, 62, rfl⟩
abbrev main_v16 : Ref sig .tc := ⟨.hbm, 63, rfl⟩
abbrev main_v17 : Ref sig .tc := ⟨.hbm, 64, rfl⟩
abbrev main_cst_6 : Ref sig .tc := ⟨.hbm, 65, rfl⟩
abbrev main_cst_7 : Ref sig .tc := ⟨.hbm, 66, rfl⟩
abbrev main_call2_v0 : Ref sig .tc := ⟨.hbm, 67, rfl⟩
abbrev main_call2_v1 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_cst_8 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_cst_9 : Ref sig .tc := ⟨.hbm, 101, rfl⟩
abbrev main_v49 : Ref sig .tc := ⟨.hbm, 102, rfl⟩
abbrev main_cst_10 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩

abbrev nD : Nat := 1
abbrev τ : Topo := Topo.v7x

variable {F : FTy → Type} [FloatOps F]
-- ==== Proof.KINames.lean ====
/-
  The names the proof of `KernelIdeal` speaks in, and the offsets of the kernel's loop in closed form.

  The kernel streams the 16384 rows of `z` through four slots of 2048 rows: block `b` of `z` is `zB b`, block `b` of
  the result `qB b`, slot `s` of the input buffer `inS s` with its semaphore `csI s`, slot `s` of the output buffer
  `outS s` with its semaphore `csO s`. Trip `k` works on slot `k % 4` and block `k`; when `4 ≤ k` it first waits for
  the write-back of block `k - 4`, when `k < 4` it last issues the fetch of block `k + 4`.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Ring
public import Idealize.ShloMosaic.Lib.Ring.Trips
public import Idealize.ShloMosaic.Lib.Pipeline.FrameSuffixV
public import Idealize.ShloMosaic.Lib.Tactic

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Blocks, slots, semaphores -/

abbrev zM : Memref sig .tc .hbm S16384x768 .f32 := Memref.whole main_v0
abbrev qM : Memref sig .tc .hbm S16384x768 .f32 := Memref.whole main_v20_0
abbrev iM : Memref sig .tc .vmem S4x2048x768 .f32 := Memref.whole cc0_scratch0
abbrev oM : Memref sig .tc .vmem S4x2048x768 .f32 := Memref.whole cc0_scratch1

abbrev blkOff (b : Fin 8) : Fin 2 → Nat := ![2048 * b.val, 0]
theorem blkOff_inb (b : Fin 8) : ∀ a, blkOff b a + S2048x768.size a ≤ S16384x768.size a := by
  have := b.isLt; intro a; fin_cases a
  · show 2048 * b.val + 2048 ≤ 16384; omega
  · show 0 + 768 ≤ 768; omega
abbrev slotOff (s : Fin 4) : Fin 3 → Nat := ![s.val, 0, 0]
theorem slotOff_inb (s : Fin 4) : ∀ a, slotOff s a + S1x2048x768.size a ≤ S4x2048x768.size a := by
  have := s.isLt; intro a; fin_cases a
  · show s.val + 1 ≤ 4; omega
  · show 0 + 2048 ≤ 2048; omega
  · show 0 + 768 ≤ 768; omega
abbrev semOff (s : Fin 4) : Fin 1 → Nat := ![s.val]
theorem semOff_inb (s : Fin 4) : ∀ a, semOff s a + S1.size a ≤ S4.size a := by
  have := s.isLt; intro a; fin_cases a; show s.val + 1 ≤ 4; omega

/-- Block `b` of `z`: rows `2048 b` to `2048 b + 2047`. -/
def zB (b : Fin 8) : Memref sig .tc .hbm S2048x768 .f32 :=
  zM.slice (Rect.unit (s := S16384x768) (blkOff b) S2048x768.size (blkOff_inb b)) (fun _ => rfl)
/-- Block `b` of the result. -/
def qB (b : Fin 8) : Memref sig .tc .hbm S2048x768 .f32 :=
  qM.slice (Rect.unit (s := S16384x768) (blkOff b) S2048x768.size (blkOff_inb b)) (fun _ => rfl)
/-- Slot `s` of the input buffer. -/
def inS (s : Fin 4) : Memref sig .tc .vmem S2048x768 .f32 :=
  (iM.slice (Rect.unit (s := S4x2048x768) (slotOff s) S1x2048x768.size (slotOff_inb s)) (fun _ => rfl)).squeeze S2048x768 squeezes_S1x2048x768_S2048x768
/-- Slot `s` of the output buffer. -/
def outS (s : Fin 4) : Memref sig .tc .vmem S2048x768 .f32 :=
  (oM.slice (Rect.unit (s := S4x2048x768) (slotOff s) S1x2048x768.size (slotOff_inb s)) (fun _ => rfl)).squeeze S2048x768 squeezes_S1x2048x768_S2048x768
/-- The input slot's semaphore. -/
def csI (s : Fin 4) : DmaSems sig S_ := (cc0_scratch2.slice (Rect.unit (s := S4) (semOff s) S1.size (semOff_inb s))).squeeze S_ squeezes_S1_S_
/-- The output slot's semaphore. -/
def csO (s : Fin 4) : DmaSems sig S_ := (cc0_scratch3.slice (Rect.unit (s := S4) (semOff s) S1.size (semOff_inb s))).squeeze S_ squeezes_S1_S_

instance (s : Fin 4) : ClosedOff (slotOff s) := ⟨slotOff s, rfl⟩
instance (b : Fin 8) : ClosedOff (blkOff b) := ⟨blkOff b, rfl⟩

/-! ## The loop's offsets and conditions at trip `k` -/

theorem trips_eq : k0_t1_loop.trips = 8 := by decide
theorem trip_lt (k : Fin k0_t1_loop.trips) : k.val < 8 := Nat.lt_of_lt_of_eq k.isLt trips_eq

theorem off1_eq : ∀ k : Fin k0_t1_loop.trips, k0_off1 k = semOff (Ring.sl 4 k.val) := by decide
theorem off2_eq : ∀ k : Fin k0_t1_loop.trips, k0_off2 k = slotOff (Ring.sl 4 k.val) := by decide
theorem off3_eq : ∀ k : Fin k0_t1_loop.trips, k0_off3 k = blkOff (Ring.bk 8 k.val) := by decide
theorem off4_eq : ∀ k : Fin k0_t1_loop.trips, k0_off4 k = slotOff (Ring.sl 4 k.val) := by decide
theorem off5_eq : ∀ k : Fin k0_t1_loop.trips, k0_off5 k = semOff (Ring.sl 4 k.val) := by decide
theorem off6_eq : ∀ k : Fin k0_t1_loop.trips, 4 ≤ k.val → k0_off6 k = blkOff (Ring.bk 8 (k.val - 4)) := by decide
theorem off7_eq : ∀ k : Fin k0_t1_loop.trips, k0_off7 k = slotOff (Ring.sl 4 k.val) := by decide
theorem off8_eq : ∀ k : Fin k0_t1_loop.trips, k0_off8 k = semOff (Ring.sl 4 k.val) := by decide
theorem off9_eq : ∀ k : Fin k0_t1_loop.trips, k0_off9 k = slotOff (Ring.sl 4 k.val) := by decide
theorem off10_eq : ∀ k : Fin k0_t1_loop.trips, k.val < 4 → k0_off10 k = blkOff (Ring.bk 8 (k.val + 4)) := by decide
theorem cond1_iff : ∀ k : Fin k0_t1_loop.trips, k0_cond1 k = 1#1 ↔ 4 ≤ k.val := by decide
theorem cond2_iff : ∀ k : Fin k0_t1_loop.trips, k0_cond2 k = 1#1 ↔ k.val < 4 := by decide

instance (k : Fin k0_t1_loop.trips) : ClosedOff (k0_off4 k) := ⟨slotOff (Ring.sl 4 k.val), off4_eq k⟩
instance (k : Fin k0_t1_loop.trips) : ClosedOff (k0_off2 k) := ⟨slotOff (Ring.sl 4 k.val), off2_eq k⟩

/-! ## The body's slices under those names -/

theorem csI_congr {off : Fin 1 → Nat} {s : Fin 4} (e : off = semOff s) (hh) :
    (cc0_scratch2.slice (Rect.unit (s := S4) off S1.size hh)).squeeze S_ squeezes_S1_S_ = csI s :=
  congrArg (fun A : DmaSems sig S1 => A.squeeze S_ squeezes_S1_S_) (SemArray.slice_unit_congr _ e _ _)
theorem csO_congr {off : Fin 1 → Nat} {s : Fin 4} (e : off = semOff s) (hh) :
    (cc0_scratch3.slice (Rect.unit (s := S4) off S1.size hh)).squeeze S_ squeezes_S1_S_ = csO s :=
  congrArg (fun A : DmaSems sig S1 => A.squeeze S_ squeezes_S1_S_) (SemArray.slice_unit_congr _ e _ _)
theorem inS_congr {off : Fin 3 → Nat} {s : Fin 4} (e : off = slotOff s) (hh hs) :
    (iM.slice (Rect.unit (s := S4x2048x768) off S1x2048x768.size hh) hs).squeeze S2048x768 squeezes_S1x2048x768_S2048x768 = inS s :=
  congrArg (fun M : Memref sig .tc .vmem S1x2048x768 .f32 => M.squeeze S2048x768 squeezes_S1x2048x768_S2048x768) (Memref.slice_unit_congr _ e _ _ _ _)
theorem outS_congr {off : Fin 3 → Nat} {s : Fin 4} (e : off = slotOff s) (hh hs) :
    (oM.slice (Rect.unit (s := S4x2048x768) off S1x2048x768.size hh) hs).squeeze S2048x768 squeezes_S1x2048x768_S2048x768 = outS s :=
  congrArg (fun M : Memref sig .tc .vmem S1x2048x768 .f32 => M.squeeze S2048x768 squeezes_S1x2048x768_S2048x768) (Memref.slice_unit_congr _ e _ _ _ _)
theorem zB_congr {off : Fin 2 → Nat} {b : Fin 8} (e : off = blkOff b) (hh hs) :
    zM.slice (Rect.unit (s := S16384x768) off S2048x768.size hh) hs = zB b := Memref.slice_unit_congr _ e _ _ _ (fun _ => rfl)
theorem qB_congr {off : Fin 2 → Nat} {b : Fin 8} (e : off = blkOff b) (hh hs) :
    qM.slice (Rect.unit (s := S16384x768) off S2048x768.size hh) hs = qB b := Memref.slice_unit_congr _ e _ _ _ (fun _ => rfl)

section Canon
variable (k : Fin k0_t1_loop.trips)

@[sl_canon] theorem csI_1 (hh) : (cc0_scratch2.slice (Rect.unit (s := S4) (k0_off1 k) S1.size hh)).squeeze S_ squeezes_S1_S_ = csI (Ring.sl 4 k.val) := csI_congr (off1_eq k) _
@[sl_canon] theorem csI_8 (hh) : (cc0_scratch2.slice (Rect.unit (s := S4) (k0_off8 k) S1.size hh)).squeeze S_ squeezes_S1_S_ = csI (Ring.sl 4 k.val) := csI_congr (off8_eq k) _
@[sl_canon] theorem csO_1 (hh) : (cc0_scratch3.slice (Rect.unit (s := S4) (k0_off1 k) S1.size hh)).squeeze S_ squeezes_S1_S_ = csO (Ring.sl 4 k.val) := csO_congr (off1_eq k) _
@[sl_canon] theorem csO_5 (hh) : (cc0_scratch3.slice (Rect.unit (s := S4) (k0_off5 k) S1.size hh)).squeeze S_ squeezes_S1_S_ = csO (Ring.sl 4 k.val) := csO_congr (off5_eq k) _
@[sl_canon] theorem inS_2 (hh hs) :
    (iM.slice (Rect.unit (s := S4x2048x768) (k0_off2 k) S1x2048x768.size hh) hs).squeeze S2048x768 squeezes_S1x2048x768_S2048x768 = inS (Ring.sl 4 k.val) := inS_congr (off2_eq k) _ _
@[sl_canon] theorem inS_9 (hh hs) :
    (iM.slice (Rect.unit (s := S4x2048x768) (k0_off9 k) S1x2048x768.size hh) hs).squeeze S2048x768 squeezes_S1x2048x768_S2048x768 = inS (Ring.sl 4 k.val) := inS_congr (off9_eq k) _ _
@[sl_canon] theorem outS_2 (hh hs) :
    (oM.slice (Rect.unit (s := S4x2048x768) (k0_off2 k) S1x2048x768.size hh) hs).squeeze S2048x768 squeezes_S1x2048x768_S2048x768 = outS (Ring.sl 4 k.val) := outS_congr (off2_eq k) _ _
@[sl_canon] theorem outS_7 (hh hs) :
    (oM.slice (Rect.unit (s := S4x2048x768) (k0_off7 k) S1x2048x768.size hh) hs).squeeze S2048x768 squeezes_S1x2048x768_S2048x768 = outS (Ring.sl 4 k.val) := outS_congr (off7_eq k) _ _
@[sl_canon] theorem zB_3 (hh hs) : zM.slice (Rect.unit (s := S16384x768) (k0_off3 k) S2048x768.size hh) hs = zB (Ring.bk 8 k.val) := zB_congr (off3_eq k) _ _
@[sl_canon] theorem zB_10 (hk : k.val < 4) (hh hs) : zM.slice (Rect.unit (s := S16384x768) (k0_off10 k) S2048x768.size hh) hs = zB (Ring.bk 8 (k.val + 4)) := zB_congr (off10_eq k hk) _ _
@[sl_canon] theorem qB_3 (hh hs) : qM.slice (Rect.unit (s := S16384x768) (k0_off3 k) S2048x768.size hh) hs = qB (Ring.bk 8 k.val) := qB_congr (off3_eq k) _ _
@[sl_canon] theorem qB_6 (hk : 4 ≤ k.val) (hh hs) : qM.slice (Rect.unit (s := S16384x768) (k0_off6 k) S2048x768.size hh) hs = qB (Ring.bk 8 (k.val - 4)) := qB_congr (off6_eq k hk) _ _

end Canon

/-! The prologue's and the epilogue's literal slices. -/

@[sl_canon] theorem csI_L0 (hh) : (cc0_scratch2.slice (Rect.unit (s := S4) ![0] S1.size hh)).squeeze S_ squeezes_S1_S_ = csI 0 := csI_congr (by decide) _
@[sl_canon] theorem csI_L1 (hh) : (cc0_scratch2.slice (Rect.unit (s := S4) ![1] S1.size hh)).squeeze S_ squeezes_S1_S_ = csI 1 := csI_congr (by decide) _
@[sl_canon] theorem csI_L2 (hh) : (cc0_scratch2.slice (Rect.unit (s := S4) ![2] S1.size hh)).squeeze S_ squeezes_S1_S_ = csI 2 := csI_congr (by decide) _
@[sl_canon] theorem csI_L3 (hh) : (cc0_scratch2.slice (Rect.unit (s := S4) ![3] S1.size hh)).squeeze S_ squeezes_S1_S_ = csI 3 := csI_congr (by decide) _
@[sl_canon] theorem csO_L0 (hh) : (cc0_scratch3.slice (Rect.unit (s := S4) ![0] S1.size hh)).squeeze S_ squeezes_S1_S_ = csO 0 := csO_congr (by decide) _
@[sl_canon] theorem csO_L1 (hh) : (cc0_scratch3.slice (Rect.unit (s := S4) ![1] S1.size hh)).squeeze S_ squeezes_S1_S_ = csO 1 := csO_congr (by decide) _
@[sl_canon] theorem csO_L2 (hh) : (cc0_scratch3.slice (Rect.unit (s := S4) ![2] S1.size hh)).squeeze S_ squeezes_S1_S_ = csO 2 := csO_congr (by decide) _
@[sl_canon] theorem csO_L3 (hh) : (cc0_scratch3.slice (Rect.unit (s := S4) ![3] S1.size hh)).squeeze S_ squeezes_S1_S_ = csO 3 := csO_congr (by decide) _
@[sl_canon] theorem inS_L0 (hh hs) : (iM.slice (Rect.unit (s := S4x2048x768) ![0, 0, 0] S1x2048x768.size hh) hs).squeeze S2048x768 squeezes_S1x2048x768_S2048x768 = inS 0 := inS_congr (by decide) _ _
@[sl_canon] theorem inS_L1 (hh hs) : (iM.slice (Rect.unit (s := S4x2048x768) ![1, 0, 0] S1x2048x768.size hh) hs).squeeze S2048x768 squeezes_S1x2048x768_S2048x768 = inS 1 := inS_congr (by decide) _ _
@[sl_canon] theorem inS_L2 (hh hs) : (iM.slice (Rect.unit (s := S4x2048x768) ![2, 0, 0] S1x2048x768.size hh) hs).squeeze S2048x768 squeezes_S1x2048x768_S2048x768 = inS 2 := inS_congr (by decide) _ _
@[sl_canon] theorem inS_L3 (hh hs) : (iM.slice (Rect.unit (s := S4x2048x768) ![3, 0, 0] S1x2048x768.size hh) hs).squeeze S2048x768 squeezes_S1x2048x768_S2048x768 = inS 3 := inS_congr (by decide) _ _
@[sl_canon] theorem outS_L0 (hh hs) : (oM.slice (Rect.unit (s := S4x2048x768) ![0, 0, 0] S1x2048x768.size hh) hs).squeeze S2048x768 squeezes_S1x2048x768_S2048x768 = outS 0 := outS_congr (by decide) _ _
@[sl_canon] theorem outS_L1 (hh hs) : (oM.slice (Rect.unit (s := S4x2048x768) ![1, 0, 0] S1x2048x768.size hh) hs).squeeze S2048x768 squeezes_S1x2048x768_S2048x768 = outS 1 := outS_congr (by decide) _ _
@[sl_canon] theorem outS_L2 (hh hs) : (oM.slice (Rect.unit (s := S4x2048x768) ![2, 0, 0] S1x2048x768.size hh) hs).squeeze S2048x768 squeezes_S1x2048x768_S2048x768 = outS 2 := outS_congr (by decide) _ _
@[sl_canon] theorem outS_L3 (hh hs) : (oM.slice (Rect.unit (s := S4x2048x768) ![3, 0, 0] S1x2048x768.size hh) hs).squeeze S2048x768 squeezes_S1x2048x768_S2048x768 = outS 3 := outS_congr (by decide) _ _
@[sl_canon] theorem zB_L0 (hh hs) : zM.slice (Rect.unit (s := S16384x768) ![0, 0] S2048x768.size hh) hs = zB 0 := zB_congr (by decide) _ _
@[sl_canon] theorem zB_L1 (hh hs) : zM.slice (Rect.unit (s := S16384x768) ![2048, 0] S2048x768.size hh) hs = zB 1 := zB_congr (by decide) _ _
@[sl_canon] theorem zB_L2 (hh hs) : zM.slice (Rect.unit (s := S16384x768) ![4096, 0] S2048x768.size hh) hs = zB 2 := zB_congr (by decide) _ _
@[sl_canon] theorem zB_L3 (hh hs) : zM.slice (Rect.unit (s := S16384x768) ![6144, 0] S2048x768.size hh) hs = zB 3 := zB_congr (by decide) _ _
@[sl_canon] theorem qB_L4 (hh hs) : qM.slice (Rect.unit (s := S16384x768) ![8192, 0] S2048x768.size hh) hs = qB 4 := qB_congr (by decide) _ _
@[sl_canon] theorem qB_L5 (hh hs) : qM.slice (Rect.unit (s := S16384x768) ![10240, 0] S2048x768.size hh) hs = qB 5 := qB_congr (by decide) _ _
@[sl_canon] theorem qB_L6 (hh hs) : qM.slice (Rect.unit (s := S16384x768) ![12288, 0] S2048x768.size hh) hs = qB 6 := qB_congr (by decide) _ _
@[sl_canon] theorem qB_L7 (hh hs) : qM.slice (Rect.unit (s := S16384x768) ![14336, 0] S2048x768.size hh) hs = qB 7 := qB_congr (by decide) _ _

end Cert.Proof.KI

end
-- ==== Proof.Slots.lean ====
/-
  A slot of a ring buffer seen in two ways: through the squeezed slice a copy names it by, and through the rectangle
  of the whole ring that a load or a store names it by.
-/
module

public import Idealize.ShloMosaic.Lib.Pipeline.Value
public import Idealize.ShloMosaic.Lib.Tactic

@[expose] public section

namespace Cert.Proof.Slots

open Idealize.ShloMosaic

variable {sig : RefSig} {κ : Kind} {sp : Space} {s : Shape} {e : EltTy} {Val : EltTy → Type}

/-- Two buffers read alike through a view agree on the view's elements. -/
theorem agree_of_read (v : View sig κ sp s e) (f g : v.ty.Contents Val) (h : v.read Val f = v.read Val g) : ∀ i ∈ v.set, f i = g i := by
  intro i hi
  obtain ⟨x, -, rfl⟩ := Finset.mem_map.mp hi
  have := congrFun h x
  rw [View.read_apply, View.read_apply] at this
  exact (cast_inj _).mp this

/-- A load of the slot, known through the squeezed slice. -/
theorem load_slot {s' : Shape} (M : Memref sig κ sp s e) (r : Rect s) (hr : ∀ a, r.stride a = 1) (hq : r.shape.Squeezes s')
    (f : M.view.ty.Contents Val) (z : s'.Idx → Val e) (hz : ((M.slice r hr).squeeze s' hq).view.read Val f = z) (hc : s'.ShapeCasts r.shape) :
    M.view.readAt Val r.toLoadRect f = shapeCast r.shape z hc := by
  subst hz
  funext j
  show _ = M.view.readAt Val r.toLoadRect f (Shape.reshapeEquiv _ (Shape.reshapeEquiv _ j))
  rw [Shape.reshapeEquiv_reshapeEquiv, Shape.reshapeEquiv_self]

/-- What the squeezed slice reads after a store of the whole slot. -/
theorem read_stored {s' : Shape} (M : Memref sig κ sp s e) (r : Rect s) (hr : ∀ a, r.stride a = 1) (hq : r.shape.Squeezes s')
    (f : M.view.ty.Contents Val) (w : r.shape.Idx → Val e) (hc : r.shape.ShapeCasts s') :
    ((M.slice r hr).squeeze s' hq).view.read Val ((M.access r).write Val f w Finset.univ) = shapeCast s' w hc := by
  funext x
  show (M.access r).read Val ((M.access r).write Val f w Finset.univ) (Shape.reshapeEquiv _ x) = _
  rw [View.read_write_univ]
  rfl

/-- `load_slot` where the load spells the rectangle's offsets otherwise. -/
theorem load_slot_at {s' : Shape} (M : Memref sig κ sp s e) {off off' : Fin s.rank → ℕ} (eo : off = off') (size : Fin s.rank → ℕ)
    (h : ∀ a, off a + size a ≤ s.size a) (h' : ∀ a, off' a + size a ≤ s.size a) (hr) (hq : (Rect.unit off' size h').shape.Squeezes s')
    (f : M.view.ty.Contents Val) (z : s'.Idx → Val e)
    (hz : ((M.slice (Rect.unit off' size h') hr).squeeze s' hq).view.read Val f = z) (hc : s'.ShapeCasts ⟨s.rank, size⟩) :
    M.view.readAt Val (Rect.unit off size h).toLoadRect f = shapeCast ⟨s.rank, size⟩ z hc := by
  subst eo
  exact load_slot M _ hr hq f z hz hc

/-- `read_stored` where the store spells the rectangle's offsets otherwise. -/
theorem read_stored_at {s' : Shape} (M : Memref sig κ sp s e) {off off' : Fin s.rank → ℕ} (eo : off = off') (size : Fin s.rank → ℕ)
    (h : ∀ a, off a + size a ≤ s.size a) (h' : ∀ a, off' a + size a ≤ s.size a) (hr) (hq : (Rect.unit off' size h').shape.Squeezes s')
    (f : M.view.ty.Contents Val) (w : (⟨s.rank, size⟩ : Shape).Idx → Val e) (hc : (⟨s.rank, size⟩ : Shape).ShapeCasts s') :
    ((M.slice (Rect.unit off' size h') hr).squeeze s' hq).view.read Val ((M.access (Rect.unit off size h)).write Val f w Finset.univ) = shapeCast s' w hc := by
  subst eo
  exact read_stored M _ hr hq f w hc

/-- A load of the whole of a buffer held at given values reads those values. -/
theorem load_all [∀ e, Nonempty (Val e)] (M : Memref sig κ sp s e) (off : Fin s.rank → ℕ) (ho : ∀ a, off a = 0) (h : ∀ a, off a + s.size a ≤ s.size a)
    (X : s.Idx → Val e) : M.view.readAt Val (Rect.unit off s.size h).toLoadRect (M.view.rep X) = X := by
  funext x
  rw [View.readAt_apply, View.read_rep]
  congr 1
  funext a
  apply Fin.ext
  show off a + 1 * (x a).val = _
  rw [ho a, Nat.zero_add, Nat.one_mul]

/-- A slice of a whole buffer reads the buffer at the rectangle's elements. -/
theorem read_slice_whole (b : Ref sig κ) (r : Rect b.ty.shape) (h : ∀ a, r.stride a = 1) (f : b.ty.Contents Val) (x : r.shape.Idx) :
    ((Memref.whole b).slice r h).view.read Val f x = f (r.emb x) := rfl

/-- A buffer stored whole reads the values stored. -/
theorem read_store_all (v : View sig κ sp s e) (off : Fin s.rank → ℕ) (ho : ∀ a, off a = 0) (h : ∀ a, off a + s.size a ≤ s.size a)
    (f : v.ty.Contents Val) (w : s.Idx → Val e) : v.read Val (v.writes Val f [⟨Rect.unit off s.size h, w⟩]) = w := by
  funext x
  have hx : (Rect.unit off s.size h).emb x = x := by
    funext a
    apply Fin.ext
    show off a + 1 * (x a).val = _
    rw [ho a, Nat.zero_add, Nat.one_mul]
  have := View.read_slice_write_emb (v := v) (Val := Val) (Rect.unit off s.size h) f w (M := Finset.univ) (x := x) (Finset.mem_univ _)
  rw [hx] at this
  exact this

end Cert.Proof.Slots
-- ==== Proof.KITrip.lean ====
/-
  One trip of the kernel's loop, as a rule for a symbolic trip number: `tripA` while there is a further block to fetch
  (`k < 4`), `tripB` while there is a write-back to wait for (`4 ≤ k`).
-/
module

public import proofs.«01_k».proof.Proof.KINames
public import proofs.«01_k».proof.Proof.Slots

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev UU : Type := Pipeline.UD sig nD τ
/-- The resource algebra of the launch. -/
local notation "𝕄" => MT nD τ sig Unit (Elt F) ℕ UU ℕ
abbrev 𝒱₀ : Variants := Variants.none

section Pieces
variable (c : Dev nD)

/-- An input slot's semaphore, at rest. -/
abbrev cellI (s : Fin 4) : sProp 𝕄 := semVal ((c : Thread nD τ), SemLoc.dma (csI s).sem) 0
/-- An output slot's semaphore, at rest. -/
abbrev cellO (s : Fin 4) : sProp 𝕄 := semVal ((c : Thread nD τ), SemLoc.dma (csO s).sem) 0
/-- An input slot, held. -/
abbrev slotI (s : Fin 4) (f : Buf (Elt F) ((inS s).view.loc (c : Thread nD τ))) : sProp 𝕄 :=
  (inS s).view.loc (c : Thread nD τ) ↦[(inS s).view.set]{fullShare} f
/-- An output slot, held. -/
abbrev slotO (s : Fin 4) (f : Buf (Elt F) ((outS s).view.loc (c : Thread nD τ))) : sProp 𝕄 :=
  (outS s).view.loc (c : Thread nD τ) ↦[(outS s).view.set]{fullShare} f
/-- A block of `z`, held. -/
abbrev zP (XZ : Buf (Elt F) (zM.view.loc (c : Thread nD τ))) (b : Fin 8) : sProp 𝕄 :=
  (zB b).view.loc (c : Thread nD τ) ↦[(zB b).view.set]{fullShare} XZ
/-- A block of the result, held. -/
abbrev qP (G : Buf (Elt F) (qM.view.loc (c : Thread nD τ))) (b : Fin 8) : sProp 𝕄 :=
  (qB b).view.loc (c : Thread nD τ) ↦[(qB b).view.set]{fullShare} G
/-- The units a block's transfer moves on its semaphore. -/
abbrev NN : ℕ := 196608
/-- Input slot `s` in flight with block `b` of `z`: what comes back is the slot at `g` and the block. -/
abbrev flI (XZ : Buf (Elt F) (zM.view.loc (c : Thread nD τ))) (s : Fin 4) (b : Fin 8) (g : Buf (Elt F) ((inS s).view.loc (c : Thread nD τ))) : sProp 𝕄 :=
  Transfers.Flight countersEmb (c : Thread nD τ) (SemLoc.dma (csI s).sem) () NN iprop(slotI c s g ∗ zP c XZ b)
/-- Output slot `s` on its way to block `b` of the result: what comes back is the block at `g` and the slot. -/
abbrev flO (s : Fin 4) (b : Fin 8) (g : Buf (Elt F) (qM.view.loc (c : Thread nD τ))) (h : Buf (Elt F) ((outS s).view.loc (c : Thread nD τ))) : sProp 𝕄 :=
  Transfers.Flight countersEmb (c : Thread nD τ) (SemLoc.dma (csO s).sem) () NN iprop(qP c g b ∗ slotO c s h)

end Pieces

section Trip
variable (c : Dev nD) (XZ : Buf (Elt F) (zM.view.loc (c : Thread nD τ)))
  (arg1 : Memref sig .tc .vmem S768x128 .f32) (harg1 : arg1.IsWhole)
  (arg2 : Memref sig .tc .vmem S1x128 .f32) (harg2 : arg2.IsWhole)
  (arg3 : Memref sig .tc .vmem S8x768 .f32) (harg3 : arg3.IsWhole)
  (arg4 : Memref sig .tc .vmem S1x768 .f32) (harg4 : arg4.IsWhole)
  (arg5 : Memref sig .tc .vmem S1x128 .f32) (harg5 : arg5.IsWhole)
  (arg7 : Memref sig .tc .vmem S1x1 .f32) (harg7 : arg7.IsWhole)
  (v23 : FVec F S1x128 .f32) (v25 : FVec F S1x128 .f32) (v26 : IVec S1x128 1) (v28 : FVec F S1x128 .f32)
  (v40 : Vec F S768x128 .f32) (v42 : Vec F S1x128 .f32) (v44 : Vec F S8x768 .f32) (v46 : Vec F S1x768 .f32)

/-- Trip `k`, entered with the error `acc`. -/
abbrev tripG (k : Fin k0_t1_loop.trips) (acc : F .f32) : Prog (TpuEff nD τ sig (Elt F) Λ₀ .tc) (F .f32) :=
  k0_t1_body (F := F) zM (Memref.isWhole_whole _) arg1 harg1 arg2 harg2 arg3 harg3 arg4 harg4 arg5 harg5 qM (Memref.isWhole_whole _) arg7 harg7
    iM (Memref.isWhole_whole _) oM (Memref.isWhole_whole _) cc0_scratch2 cc0_scratch3 v23 v25 v26 v28 v40 v42 v44 v46 k acc

/-! ## What a trip computes from its block -/

/-- Block `b` of `z`. -/
def zread (b : Fin 8) : S2048x768.Idx → Elt F .f32 := (zB b).view.read (Elt F) XZ
/-- Block `b` of `z` as the trip loads it. -/
def vblk (b : Fin 8) : Vec F S1x2048x768 .f32 := shapeCast S1x2048x768 (zread c XZ b) shapeCasts_S2048x768_S1x2048x768
/-- The squared error after block `b`, from the one before it. -/
def accN (acc : F .f32) (b : Fin 8) : F .f32 :=
  k0_pay3 (k0_pay13 v23 v25 v26 v28) (k0_pay14 v23 v25 v26 v28) (k0_pay15 v40) (k0_pay16 v42) acc (vblk c XZ b)
/-- Block `b` of the result, as the trip stores it. -/
def oraw (b : Fin 8) : FVec F S1x2048x768 .f32 :=
  k0_pay18 v44 v46
    (k0_pay2 (k0_pay13 v23 v25 v26 v28) (k0_pay14 v23 v25 v26 v28) (k0_pay15 v40) (k0_pay16 v42) (vblk c XZ b))
    (k0_pay4 (k0_pay13 v23 v25 v26 v28) (k0_pay14 v23 v25 v26 v28) (k0_pay15 v40) (k0_pay16 v42) (k0_pay17 v44) (vblk c XZ b))
    (k0_pay5 (k0_pay17 v44))
    (k0_pay6 (k0_pay13 v23 v25 v26 v28) (k0_pay14 v23 v25 v26 v28) (k0_pay15 v40) (k0_pay16 v42) (vblk c XZ b))
/-- Block `b` of the result, as it is written back. -/
def oblk (b : Fin 8) : S2048x768.Idx → Elt F .f32 :=
  shapeCast S2048x768 (oraw c XZ v23 v25 v26 v28 v40 v42 v44 v46 b) shapeCasts_S1x2048x768_S2048x768

/-- The trip's load of a slot that holds block `b`. -/
theorem load_eq (k : Fin k0_t1_loop.trips) (b : Fin 8) (g : Buf (Elt F) ((inS (Ring.sl 4 k.val)).view.loc (c : Thread nD τ))) (hh)
    (hg : (inS (Ring.sl 4 k.val)).view.read (Elt F) g = zread c XZ b) :
    View.readAt (Elt F) iM.view (Rect.unit (s := S4x2048x768) (k0_off4 k) S1x2048x768.size hh).toLoadRect g = vblk c XZ b :=
  Slots.load_slot_at iM (off4_eq k) S1x2048x768.size hh (slotOff_inb _) (fun _ => rfl) squeezes_S1x2048x768_S2048x768 g _ hg shapeCasts_S2048x768_S1x2048x768

/-- The slot as the trip's store leaves it, read by the write-back. -/
theorem store_eq (k : Fin k0_t1_loop.trips) (h : Buf (Elt F) ((outS (Ring.sl 4 k.val)).view.loc (c : Thread nD τ))) (hh)
    (w : S1x2048x768.Idx → Elt F .f32) :
    View.read (Elt F) (outS (Ring.sl 4 k.val)).view
      (View.write (Elt F) (oM.access (Rect.unit (s := S4x2048x768) (k0_off4 k) S1x2048x768.size hh)) h w Finset.univ)
      = shapeCast S2048x768 w shapeCasts_S1x2048x768_S2048x768 :=
  Slots.read_stored_at oM (off4_eq k) S1x2048x768.size hh (slotOff_inb _) (fun _ => rfl) squeezes_S1x2048x768_S2048x768 h w shapeCasts_S1x2048x768_S2048x768

variable (R : Buf (Elt F) (qM.view.loc (c : Thread nD τ)))

/-- `R` is the result: each block of it is what the trip of that number writes back. -/
def IsRes : Prop := ∀ b, (qB b).view.read (Elt F) R = oblk c XZ v23 v25 v26 v28 v40 v42 v44 v46 b

set_option backward.proofsInPublic true in

/-- The write-back a trip issues, its payload `p` block `b` of the result: what will come back is the result's block. -/
theorem flO_intro (hR : IsRes c XZ v23 v25 v26 v28 v40 v42 v44 v46 R) (s : Fin 4) (b : Fin 8) (Q : Buf (Elt F) (qM.view.loc (c : Thread nD τ)))
    (h : Buf (Elt F) ((outS s).view.loc (c : Thread nD τ))) (p : S2048x768.Idx → Elt F .f32)
    (hp : p = oblk c XZ v23 v25 v26 v28 v40 v42 v44 v46 b) :
    (flO c s b ((qB b).view.writes (Elt F) Q [⟨Rect.whole S2048x768, p⟩]) h : sProp 𝕄) ⊢ flO c s b R h := by
  refine Transfers.Flight_mono countersEmb (c : Thread nD τ) ?_
  have e : qP c ((qB b).view.writes (Elt F) Q [⟨Rect.whole S2048x768, p⟩]) b = (qP c R b : sProp 𝕄) := by
    refine pointsTo_congr (Slots.agree_of_read (qB b).view _ _ ?_)
    exact (View.read_writes_whole (qB b).view Q p).trans (hp.trans (hR b).symm)
  rw [e]

/-- Trip `k < 4`: slot `k % 4` has block `k`; the result block goes out through the free output slot, and block
    `k + 4` is fetched. -/
theorem tripA (hR : IsRes c XZ v23 v25 v26 v28 v40 v42 v44 v46 R) (k : Fin k0_t1_loop.trips) (hk : k.val < 4) (acc : F .f32)
    (g : Buf (Elt F) ((inS (Ring.sl 4 k.val)).view.loc (c : Thread nD τ)))
    (hg : (inS (Ring.sl 4 k.val)).view.read (Elt F) g = zread c XZ (Ring.bk 8 k.val))
    (h : Buf (Elt F) ((outS (Ring.sl 4 k.val)).view.loc (c : Thread nD τ))) (Q : Buf (Elt F) (qM.view.loc (c : Thread nD τ))) :
    iprop((∃ W, owes (c : Thread nD τ) 0 W) ∗ flI c XZ (Ring.sl 4 k.val) (Ring.bk 8 k.val) g ∗ slotO c (Ring.sl 4 k.val) h ∗ cellO c (Ring.sl 4 k.val)
        ∗ zP c XZ (Ring.bk 8 (k.val + 4)) ∗ qP c Q (Ring.bk 8 k.val))
      ⊢ wp frame (wpE (defs₀ (F := F)) 𝒱₀ (c : Thread nD τ) none) Set.univ
        (tripG arg1 harg1 arg2 harg2 arg3 harg3 arg4 harg4 arg5 harg5 arg7 harg7 v23 v25 v26 v28 v40 v42 v44 v46 k acc)
        (fun acc' => iprop(⌜acc' = accN c XZ v23 v25 v26 v28 v40 v42 acc (Ring.bk 8 k.val)⌝ ∗ (∃ W, owes (c : Thread nD τ) 0 W) ∗ zP c XZ (Ring.bk 8 k.val)
          ∗ (∃ g', ⌜(inS (Ring.sl 4 k.val)).view.read (Elt F) g' = zread c XZ (Ring.bk 8 (k.val + 4))⌝ ∗ flI c XZ (Ring.sl 4 k.val) (Ring.bk 8 (k.val + 4)) g')
          ∗ (∃ h', flO c (Ring.sl 4 k.val) (Ring.bk 8 k.val) R h'))) := by
  have hc1 : ¬ k0_cond1 k = 1#1 := by rw [cond1_iff]; omega
  have hc2 : k0_cond2 k = 1#1 := (cond2_iff k).2 hk
  iintro ⟨⟨%W, HW⟩, HI, HO, HC, HZ, HQ⟩
  dsimp only [tripG]
  sl_unfold [k0_t1_body]
  sl_exec
  sl_step
  isplitr
  · ipureintro
    unfold tripA.sl.r_1 accN
    rw [load_eq c XZ k (Ring.bk 8 k.val) g _ hg]
  isplitl [HW]; · iexists _; iexact HW
  isplitl [HI_src]; · iexact HI_src
  isplitl [HI]
  · iexists ((inS (Ring.sl 4 k.val)).view.writes (Elt F) g [⟨Rect.whole S2048x768, tripA.sl.dma3_1 c XZ k⟩])
    isplitr
    · ipureintro
      rw [View.read_writes_whole]
      unfold tripA.sl.dma3_1 zread
      rfl
    · iexact HI
  iexists (tripA.sl.HO_w1 c v23 v25 v26 v28 v40 v42 v44 v46 k g h)
  iapply (flO_intro c XZ v23 v25 v26 v28 v40 v42 v44 v46 R hR (Ring.sl 4 k.val) (Ring.bk 8 k.val) Q _ (tripA.sl.dma3 c v23 v25 v26 v28 v40 v42 v44 v46 k g h) ?_)
  · unfold tripA.sl.dma3 tripA.sl.HO_w1
    rw [ReadAs.apply_same, store_eq c k h _ _]
    unfold tripA.sl.r tripA.sl.r_2 tripA.sl.r_3 tripA.sl.r_4 oblk oraw
    rw [load_eq c XZ k (Ring.bk 8 k.val) g _ hg]
  · iexact HC

set_option backward.proofsInPublic true in
/-- Trip `4 ≤ k`: block `k - 4` of the result comes home first, block `k` goes out after it. -/
theorem tripB (hR : IsRes c XZ v23 v25 v26 v28 v40 v42 v44 v46 R) (k : Fin k0_t1_loop.trips) (hk : 4 ≤ k.val) (acc : F .f32)
    (g : Buf (Elt F) ((inS (Ring.sl 4 k.val)).view.loc (c : Thread nD τ)))
    (hg : (inS (Ring.sl 4 k.val)).view.read (Elt F) g = zread c XZ (Ring.bk 8 k.val))
    (h : Buf (Elt F) ((outS (Ring.sl 4 k.val)).view.loc (c : Thread nD τ))) (Q : Buf (Elt F) (qM.view.loc (c : Thread nD τ))) :
    iprop((∃ W, owes (c : Thread nD τ) 0 W) ∗ flI c XZ (Ring.sl 4 k.val) (Ring.bk 8 k.val) g ∗ flO c (Ring.sl 4 k.val) (Ring.bk 8 (k.val - 4)) R h
        ∗ qP c Q (Ring.bk 8 k.val))
      ⊢ wp frame (wpE (defs₀ (F := F)) 𝒱₀ (c : Thread nD τ) none) Set.univ
        (tripG arg1 harg1 arg2 harg2 arg3 harg3 arg4 harg4 arg5 harg5 arg7 harg7 v23 v25 v26 v28 v40 v42 v44 v46 k acc)
        (fun acc' => iprop(⌜acc' = accN c XZ v23 v25 v26 v28 v40 v42 acc (Ring.bk 8 k.val)⌝ ∗ (∃ W, owes (c : Thread nD τ) 0 W) ∗ zP c XZ (Ring.bk 8 k.val)
          ∗ slotI c (Ring.sl 4 k.val) g ∗ cellI c (Ring.sl 4 k.val) ∗ qP c R (Ring.bk 8 (k.val - 4))
          ∗ (∃ h', flO c (Ring.sl 4 k.val) (Ring.bk 8 k.val) R h'))) := by
  have hc1 : k0_cond1 k = 1#1 := (cond1_iff k).2 hk
  have hc2 : ¬ k0_cond2 k = 1#1 := by rw [cond2_iff]; omega
  iintro ⟨⟨%W, HW⟩, HI, HC, HQ⟩
  dsimp only [tripG]
  sl_unfold [k0_t1_body]
  sl_exec
  sl_step
  isplitr
  · ipureintro
    unfold tripB.sl.r_1 accN
    rw [load_eq c XZ k (Ring.bk 8 k.val) g _ hg]
  isplitl [HW]; · iexists _; iexact HW
  isplitl [HI_src]; · iexact HI_src
  isplitl [HI_dst]; · iexact HI_dst
  isplitl [HI]; · iexact HI
  isplitl [HC_dst]; · iexact HC_dst
  iexists (tripB.sl.HC_src_w1 c v23 v25 v26 v28 v40 v42 v44 v46 k g h)
  iapply (flO_intro c XZ v23 v25 v26 v28 v40 v42 v44 v46 R hR (Ring.sl 4 k.val) (Ring.bk 8 k.val) Q _ (tripB.sl.dma3 c v23 v25 v26 v28 v40 v42 v44 v46 k g h) ?_)
  · unfold tripB.sl.dma3 tripB.sl.HC_src_w1
    rw [ReadAs.apply_same, store_eq c k h _ _]
    unfold tripB.sl.r tripB.sl.r_2 tripB.sl.r_3 tripB.sl.r_4 oblk oraw
    rw [load_eq c XZ k (Ring.bk 8 k.val) g _ hg]
  · iexact HC

end Trip

end Cert.Proof.KI

end
-- ==== Proof.KILoop.lean ====
/-
  The loop's invariant and one trip under it.

  Before trip `k` the core has computed the error over the blocks before `k`; blocks `k … k + 3` of `z` (those that
  exist) are on their way into their slots and every other block of `z` is at home; the result's blocks `k - 4 … k - 1`
  (those that exist) are on their way out, the blocks before them hold the result and the blocks from `k` on are as
  the launch found them. A slot that nothing is in flight for is held with its semaphore.
-/
module

public import proofs.«01_k».proof.Proof.KITrip

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the launch. -/
local notation "𝕄" => MT nD τ sig Unit (Elt F) ℕ UU ℕ

variable (c : Dev nD) (XZ : Buf (Elt F) (zM.view.loc (c : Thread nD τ)))

/-- The input slot of number `p`: in flight with block `p` if there is one, else free. -/
def RI (p : ℕ) : sProp 𝕄 :=
  if p < 8 then iprop(∃ g, ⌜(inS (Ring.sl 4 p)).view.read (Elt F) g = zread c XZ (Ring.bk 8 p)⌝ ∗ flI c XZ (Ring.sl 4 p) (Ring.bk 8 p) g)
  else iprop(cellI c (Ring.sl 4 p) ∗ ∃ g, slotI c (Ring.sl 4 p) g)
theorem RI_lt {p : ℕ} (h : p < 8) : RI c XZ p
    = iprop(∃ g, ⌜(inS (Ring.sl 4 p)).view.read (Elt F) g = zread c XZ (Ring.bk 8 p)⌝ ∗ flI c XZ (Ring.sl 4 p) (Ring.bk 8 p) g) := if_pos h
theorem RI_ge {p : ℕ} (h : ¬ p < 8) : RI c XZ p = iprop(cellI c (Ring.sl 4 p) ∗ ∃ g, slotI c (Ring.sl 4 p) g) := if_neg h

variable (R : Buf (Elt F) (qM.view.loc (c : Thread nD τ)))
/-- The output slot of number `p`: in flight with block `p - 4` if there is one, else free. -/
def RO (p : ℕ) : sProp 𝕄 :=
  if 4 ≤ p then iprop(∃ h, flO c (Ring.sl 4 p) (Ring.bk 8 (p - 4)) R h)
  else iprop(cellO c (Ring.sl 4 p) ∗ ∃ h, slotO c (Ring.sl 4 p) h)
theorem RO_ge {p : ℕ} (h : 4 ≤ p) : RO c R p = iprop(∃ h, flO c (Ring.sl 4 p) (Ring.bk 8 (p - 4)) R h) := if_pos h
theorem RO_lt {p : ℕ} (h : ¬ 4 ≤ p) : RO c R p = iprop(cellO c (Ring.sl 4 p) ∗ ∃ h, slotO c (Ring.sl 4 p) h) := if_neg h

variable (arg1 : Memref sig .tc .vmem S768x128 .f32) (harg1 : arg1.IsWhole)
  (arg2 : Memref sig .tc .vmem S1x128 .f32) (harg2 : arg2.IsWhole)
  (arg3 : Memref sig .tc .vmem S8x768 .f32) (harg3 : arg3.IsWhole)
  (arg4 : Memref sig .tc .vmem S1x768 .f32) (harg4 : arg4.IsWhole)
  (arg5 : Memref sig .tc .vmem S1x128 .f32) (harg5 : arg5.IsWhole)
  (arg7 : Memref sig .tc .vmem S1x1 .f32) (harg7 : arg7.IsWhole)
  (v23 : FVec F S1x128 .f32) (v25 : FVec F S1x128 .f32) (v26 : IVec S1x128 1) (v28 : FVec F S1x128 .f32)
  (v40 : Vec F S768x128 .f32) (v42 : Vec F S1x128 .f32) (v44 : Vec F S8x768 .f32) (v46 : Vec F S1x768 .f32)

/-- The squared error over the first `k` blocks, from `a`. -/
def errAt (a : F .f32) : ℕ → F .f32
  | 0 => a
  | k + 1 => accN c XZ v23 v25 v26 v28 v40 v42 (errAt a k) (Ring.bk 8 k)

variable (a : F .f32) (Q : Buf (Elt F) (qM.view.loc (c : Thread nD τ)))

/-- The loop's invariant before trip `k`. -/
def inv (k : ℕ) (acc : F .f32) : sProp 𝕄 :=
  iprop(⌜acc = errAt c XZ v23 v25 v26 v28 v40 v42 a k⌝ ∗ (∃ W, owes (c : Thread nD τ) 0 W)
    ∗ bigSep (Ring.homeSet 4 k) (zP c XZ)
    ∗ RI c XZ k ∗ RI c XZ (k + 1) ∗ RI c XZ (k + 2) ∗ RI c XZ (k + 3)
    ∗ RO c R k ∗ RO c R (k + 1) ∗ RO c R (k + 2) ∗ RO c R (k + 3)
    ∗ bigSep (Ring.rangeSet 8 k 8) (qP c Q) ∗ bigSep (Ring.rangeSet 8 0 (k - 4)) (qP c R))

theorem homes_here (k : ℕ) (hk : k + 4 < 8) :
    bigSep (Ring.homeSet 4 k) (zP c XZ) = iprop(zP c XZ (Ring.bk 8 (k + 4)) ∗ bigSep ((Ring.homeSet 4 k).erase (Ring.bk 8 (k + 4))) (zP c XZ)) := by
  conv_lhs => rw [Ring.homeSet_out 4 k hk, bigSep_insert (Ring.bkL_not_mem_erase 4 k)]
  rfl
theorem homes_next (k : ℕ) (hk : k + 4 < 8) :
    bigSep (Ring.homeSet 4 (k + 1)) (zP c XZ) = iprop(zP c XZ (Ring.bk 8 k) ∗ bigSep ((Ring.homeSet 4 k).erase (Ring.bk 8 (k + 4))) (zP c XZ)) := by
  conv_lhs => rw [Ring.homeSet_succ 4 k hk, bigSep_insert (Ring.bk_not_mem_erase 4 k (by omega) (by decide))]
  rfl
theorem homes_next_tail (k : ℕ) (hk : 8 ≤ k + 4) (hk8 : k < 8) :
    bigSep (Ring.homeSet 4 (k + 1)) (zP c XZ) = iprop(zP c XZ (Ring.bk 8 k) ∗ bigSep (Ring.homeSet 4 k) (zP c XZ)) := by
  conv_lhs => rw [Ring.homeSet_succ_tail 4 k hk hk8, bigSep_insert (Ring.bk_not_mem_homeSet 4 k hk8 (by decide))]
  rfl
theorem later_here (k : ℕ) (hk8 : k < 8) :
    bigSep (Ring.rangeSet 8 k 8) (qP c Q) = iprop(qP c Q (Ring.bk 8 k) ∗ bigSep (Ring.rangeSet 8 (k + 1) 8) (qP c Q)) := by
  rw [Ring.bigSep_rangeSet_head hk8 hk8, show (⟨k, hk8⟩ : Fin 8) = Ring.bk 8 k from Fin.ext (Ring.bk_val hk8).symm]
theorem done_next (k : ℕ) (hk : 4 ≤ k) (hk8 : k < 8) :
    bigSep (Ring.rangeSet 8 0 (k + 1 - 4)) (qP c R) = iprop(qP c R (Ring.bk 8 (k - 4)) ∗ bigSep (Ring.rangeSet 8 0 (k - 4)) (qP c R)) := by
  rw [Ring.bigSep_rangeSet_last (by omega) (by omega)]
  have e : (⟨k + 1 - 4 - 1, by omega⟩ : Fin 8) = Ring.bk 8 (k - 4) := Fin.ext (by rw [Ring.bk_val (by omega)]; show k + 1 - 4 - 1 = k - 4; omega)
  rw [e, show k + 1 - 4 - 1 = k - 4 by omega]

/-- One trip under the invariant. -/
theorem invStep (hR : IsRes c XZ v23 v25 v26 v28 v40 v42 v44 v46 R) (k : Fin k0_t1_loop.trips) (acc : F .f32) :
    inv c XZ R v23 v25 v26 v28 v40 v42 a Q k.val acc
      ⊢ wp frame (wpE (defs₀ (F := F)) 𝒱₀ (c : Thread nD τ) none) Set.univ
        (tripG arg1 harg1 arg2 harg2 arg3 harg3 arg4 harg4 arg5 harg5 arg7 harg7 v23 v25 v26 v28 v40 v42 v44 v46 k acc)
        (inv c XZ R v23 v25 v26 v28 v40 v42 a Q (k.val + 1)) := by
  have hk8 := trip_lt k
  unfold inv
  rw [show k.val + 1 + 1 = k.val + 2 from rfl, show k.val + 1 + 2 = k.val + 3 from rfl, show k.val + 1 + 3 = k.val + 4 from rfl,
    later_here c Q k.val hk8, RI_lt c XZ hk8, RO_ge c R (p := k.val + 4) (by omega), show k.val + 4 - 4 = k.val by omega]
  by_cases hk : k.val < 4
  · rw [homes_here c XZ k.val (by omega), homes_next c XZ k.val (by omega), RO_lt c R (p := k.val) (by omega), RI_lt c XZ (p := k.val + 4) (by omega),
      Ring.sl_add, show k.val + 1 - 4 = k.val - 4 by omega]
    iintro ⟨%ha, HW, ⟨Hz, Hzs⟩, ⟨%g, %hg, HI⟩, I1, I2, I3, ⟨HC, %h, HO⟩, O1, O2, O3, ⟨HQ, HQs⟩, HD⟩
    iapply (wp_wand_r Idealize.ShloMosaic.frame (wpE (defs₀ (F := F)) 𝒱₀ (c : Thread nD τ) none) Set.univ)
    isplitl [HW HI HO HC Hz HQ]
    · iapply (tripA c XZ arg1 harg1 arg2 harg2 arg3 harg3 arg4 harg4 arg5 harg5 arg7 harg7 v23 v25 v26 v28 v40 v42 v44 v46 R hR k hk acc g hg h Q)
      isplitl [HW]; · iexact HW
      isplitl [HI]; · iexact HI
      isplitl [HO]; · iexact HO
      isplitl [HC]; · iexact HC
      isplitl [Hz]; · iexact Hz
      iexact HQ
    · iintro %acc' ⟨%ha', HW, Hz, HI, HO⟩
      isplitr; · ipureintro; rw [ha', ha]; rfl
      isplitl [HW]; · iexact HW
      isplitl [Hz Hzs]; · isplitl [Hz] <;> iassumption
      isplitl [I1]; · iexact I1
      isplitl [I2]; · iexact I2
      isplitl [I3]; · iexact I3
      isplitl [HI]; · iexact HI
      isplitl [O1]; · iexact O1
      isplitl [O2]; · iexact O2
      isplitl [O3]; · iexact O3
      isplitl [HO]; · iexact HO
      isplitl [HQs]; · iexact HQs
      iexact HD
  · rw [homes_next_tail c XZ k.val (by omega) hk8, RO_ge c R (p := k.val) (by omega), RI_ge c XZ (p := k.val + 4) (by omega), Ring.sl_add,
      done_next c R k.val (by omega) hk8]
    iintro ⟨%ha, HW, Hzs, ⟨%g, %hg, HI⟩, I1, I2, I3, ⟨%h, HO⟩, O1, O2, O3, ⟨HQ, HQs⟩, HD⟩
    iapply (wp_wand_r Idealize.ShloMosaic.frame (wpE (defs₀ (F := F)) 𝒱₀ (c : Thread nD τ) none) Set.univ)
    isplitl [HW HI HO HQ]
    · iapply (tripB c XZ arg1 harg1 arg2 harg2 arg3 harg3 arg4 harg4 arg5 harg5 arg7 harg7 v23 v25 v26 v28 v40 v42 v44 v46 R hR k (by omega) acc g hg h Q)
      isplitl [HW]; · iexact HW
      isplitl [HI]; · iexact HI
      isplitl [HO]; · iexact HO
      iexact HQ
    · iintro %acc' ⟨%ha', HW, Hz, HI, HC, HD', HO⟩
      isplitr; · ipureintro; rw [ha', ha]; rfl
      isplitl [HW]; · iexact HW
      isplitl [Hz Hzs]; · isplitl [Hz] <;> iassumption
      isplitl [I1]; · iexact I1
      isplitl [I2]; · iexact I2
      isplitl [I3]; · iexact I3
      isplitl [HC HI]
      · isplitl [HC]; · iexact HC
        iexists g; iexact HI
      isplitl [O1]; · iexact O1
      isplitl [O2]; · iexact O2
      isplitl [O3]; · iexact O3
      isplitl [HO]; · iexact HO
      isplitl [HQs]; · iexact HQs
      isplitl [HD'] <;> iassumption

/-- The invariant at the loop's entry: the first four fetches under way, every output slot free. -/
theorem inv_zero (g0 g1 g2 g3)
    (h0 : (inS 0).view.read (Elt F) g0 = zread c XZ 0) (h1 : (inS 1).view.read (Elt F) g1 = zread c XZ 1)
    (h2 : (inS 2).view.read (Elt F) g2 = zread c XZ 2) (h3 : (inS 3).view.read (Elt F) g3 = zread c XZ 3) (o0 o1 o2 o3) :
    iprop((∃ W, owes (c : Thread nD τ) 0 W) ∗ bigSep (Ring.homeSet 4 0) (zP c XZ)
      ∗ flI c XZ 0 0 g0 ∗ flI c XZ 1 1 g1 ∗ flI c XZ 2 2 g2 ∗ flI c XZ 3 3 g3
      ∗ (cellO c 0 ∗ slotO c 0 o0) ∗ (cellO c 1 ∗ slotO c 1 o1) ∗ (cellO c 2 ∗ slotO c 2 o2) ∗ (cellO c 3 ∗ slotO c 3 o3)
      ∗ bigSep (Ring.rangeSet 8 0 8) (qP c Q)) ⊢ inv c XZ R v23 v25 v26 v28 v40 v42 a Q 0 a := by
  unfold inv
  rw [RI_lt c XZ (p := 0) (by decide), RI_lt c XZ (p := 0 + 1) (by decide), RI_lt c XZ (p := 0 + 2) (by decide), RI_lt c XZ (p := 0 + 3) (by decide),
    RO_lt c R (p := 0) (by decide), RO_lt c R (p := 0 + 1) (by decide), RO_lt c R (p := 0 + 2) (by decide), RO_lt c R (p := 0 + 3) (by decide),
    Ring.bigSep_rangeSet_empty (lo := 0) (hi := 0 - 4) (by decide)]
  rw [show Ring.sl 4 0 = 0 from rfl, show Ring.sl 4 (0 + 1) = 1 from rfl, show Ring.sl 4 (0 + 2) = 2 from rfl, show Ring.sl 4 (0 + 3) = 3 from rfl,
    show Ring.bk 8 0 = 0 from rfl, show Ring.bk 8 (0 + 1) = 1 from rfl, show Ring.bk 8 (0 + 2) = 2 from rfl, show Ring.bk 8 (0 + 3) = 3 from rfl]
  iintro ⟨HW, Hz, I0, I1, I2, I3, ⟨C0, O0⟩, ⟨C1, O1⟩, ⟨C2, O2⟩, ⟨C3, O3⟩, HQ⟩
  isplitr; · ipureintro; rfl
  isplitl [HW]; · iexact HW
  isplitl [Hz]; · iexact Hz
  isplitl [I0]
  · iexists g0; isplitr; · ipureintro; exact h0
    iexact I0
  isplitl [I1]
  · iexists g1; isplitr; · ipureintro; exact h1
    iexact I1
  isplitl [I2]
  · iexists g2; isplitr; · ipureintro; exact h2
    iexact I2
  isplitl [I3]
  · iexists g3; isplitr; · ipureintro; exact h3
    iexact I3
  isplitl [C0 O0]
  · isplitl [C0]; · iexact C0
    iexists o0; iexact O0
  isplitl [C1 O1]
  · isplitl [C1]; · iexact C1
    iexists o1; iexact O1
  isplitl [C2 O2]
  · isplitl [C2]; · iexact C2
    iexists o2; iexact O2
  isplitl [C3 O3]
  · isplitl [C3]; · iexact C3
    iexists o3; iexact O3
  isplitl [HQ]; · iexact HQ
  exact .rfl

/-- The invariant at the loop's exit: every fetch done, the last four write-backs under way. -/
theorem inv_eight (acc : F .f32) : inv c XZ R v23 v25 v26 v28 v40 v42 a Q 8 acc
    ⊢ iprop(⌜acc = errAt c XZ v23 v25 v26 v28 v40 v42 a 8⌝ ∗ (∃ W, owes (c : Thread nD τ) 0 W) ∗ bigSep Finset.univ (zP c XZ)
      ∗ (cellI c 0 ∗ ∃ g, slotI c 0 g) ∗ (cellI c 1 ∗ ∃ g, slotI c 1 g) ∗ (cellI c 2 ∗ ∃ g, slotI c 2 g) ∗ (cellI c 3 ∗ ∃ g, slotI c 3 g)
      ∗ (∃ h, flO c 0 4 R h) ∗ (∃ h, flO c 1 5 R h) ∗ (∃ h, flO c 2 6 R h) ∗ (∃ h, flO c 3 7 R h)
      ∗ bigSep (Ring.rangeSet 8 0 4) (qP c R)) := by
  unfold inv
  rw [RI_ge c XZ (p := 8) (by decide), RI_ge c XZ (p := 8 + 1) (by decide), RI_ge c XZ (p := 8 + 2) (by decide), RI_ge c XZ (p := 8 + 3) (by decide),
    RO_ge c R (p := 8) (by decide), RO_ge c R (p := 8 + 1) (by decide), RO_ge c R (p := 8 + 2) (by decide), RO_ge c R (p := 8 + 3) (by decide),
    Ring.bigSep_rangeSet_empty (lo := 8) (hi := 8) (by decide), Ring.homeSet_last 4 8 (by decide)]
  rw [show Ring.sl 4 8 = 0 from rfl, show Ring.sl 4 (8 + 1) = 1 from rfl, show Ring.sl 4 (8 + 2) = 2 from rfl, show Ring.sl 4 (8 + 3) = 3 from rfl,
    show Ring.bk 8 (8 - 4) = 4 from rfl, show Ring.bk 8 (8 + 1 - 4) = 5 from rfl, show Ring.bk 8 (8 + 2 - 4) = 6 from rfl, show Ring.bk 8 (8 + 3 - 4) = 7 from rfl]
  iintro ⟨%ha, HW, Hz, I0, I1, I2, I3, O0, O1, O2, O3, -, HD⟩
  isplitr; · ipureintro; exact ha
  isplitl [HW]; · iexact HW
  isplitl [Hz]; · iexact Hz
  isplitl [I0]; · iexact I0
  isplitl [I1]; · iexact I1
  isplitl [I2]; · iexact I2
  isplitl [I3]; · iexact I3
  isplitl [O0]; · iexact O0
  isplitl [O1]; · iexact O1
  isplitl [O2]; · iexact O2
  isplitl [O3]; · iexact O3
  iexact HD

end Cert.Proof.KI

end
-- ==== Proof.KIBody.lean ====
/-
  The kernel's body: the prologue's four fetches, the eight trips, the error's store and the last four write-backs.
-/
module

public import proofs.«01_k».proof.Proof.KILoop

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the launch. -/
local notation "𝕄" => MT nD τ sig Unit (Elt F) ℕ UU ℕ

variable (c : Dev nD) (XZ : Buf (Elt F) (zM.view.loc (c : Thread nD τ)))
  (R : Buf (Elt F) (qM.view.loc (c : Thread nD τ))) (Q : Buf (Elt F) (qM.view.loc (c : Thread nD τ)))
  (arg1 : Memref sig .tc .vmem S768x128 .f32) (harg1 : arg1.IsWhole)
  (arg2 : Memref sig .tc .vmem S1x128 .f32) (harg2 : arg2.IsWhole)
  (arg3 : Memref sig .tc .vmem S8x768 .f32) (harg3 : arg3.IsWhole)
  (arg4 : Memref sig .tc .vmem S1x768 .f32) (harg4 : arg4.IsWhole)
  (arg5 : Memref sig .tc .vmem S1x128 .f32) (harg5 : arg5.IsWhole)
  (arg7 : Memref sig .tc .vmem S1x1 .f32) (harg7 : arg7.IsWhole)
  (X1 : Vec F S768x128 .f32) (X2 : Vec F S1x128 .f32) (X3 : Vec F S8x768 .f32) (X4 : Vec F S1x768 .f32) (X5 : Vec F S1x128 .f32)

/-- The body on given staging buffers. -/
abbrev bodyG : Prog (TpuEff nD τ sig (Elt F) Λ₀ .tc) PUnit :=
  cc0__fsq_kernel (F := F) zM (Memref.isWhole_whole _) arg1 harg1 arg2 harg2 arg3 harg3 arg4 harg4 arg5 harg5 qM (Memref.isWhole_whole _) arg7 harg7
    iM (Memref.isWhole_whole _) oM (Memref.isWhole_whole _) cc0_scratch2 cc0_scratch3

/-- The staged operands, held at their values. -/
abbrev stagedP : sProp 𝕄 := iprop((arg1.view.loc (c : Thread nD τ) ↦[arg1.view.set]{fullShare} arg1.view.rep X1)
  ∗ (arg2.view.loc (c : Thread nD τ) ↦[arg2.view.set]{fullShare} arg2.view.rep X2)
  ∗ (arg3.view.loc (c : Thread nD τ) ↦[arg3.view.set]{fullShare} arg3.view.rep X3)
  ∗ (arg4.view.loc (c : Thread nD τ) ↦[arg4.view.set]{fullShare} arg4.view.rep X4)
  ∗ (arg5.view.loc (c : Thread nD τ) ↦[arg5.view.set]{fullShare} arg5.view.rep X5))

/-- The slots and their semaphores, at rest. -/
abbrev ringP : sProp 𝕄 := iprop(
  ((∃ g, slotI c 0 g) ∗ (∃ g, slotI c 1 g) ∗ (∃ g, slotI c 2 g) ∗ (∃ g, slotI c 3 g))
  ∗ ((∃ g, slotO c 0 g) ∗ (∃ g, slotO c 1 g) ∗ (∃ g, slotO c 2 g) ∗ (∃ g, slotO c 3 g))
  ∗ (cellI c 0 ∗ cellI c 1 ∗ cellI c 2 ∗ cellI c 3) ∗ (cellO c 0 ∗ cellO c 1 ∗ cellO c 2 ∗ cellO c 3))

theorem homes0 : (bigSep Finset.univ (zP c XZ) : sProp 𝕄)
    = iprop(zP c XZ 0 ∗ zP c XZ 1 ∗ zP c XZ 2 ∗ zP c XZ 3 ∗ bigSep (Ring.homeSet 4 0) (zP c XZ)) := by
  have e : (Finset.univ : Finset (Fin 8)) = insert 0 (insert 1 (insert 2 (insert 3 (Ring.homeSet 4 0)))) := by decide
  rw [e, bigSep_insert (by decide), bigSep_insert (by decide), bigSep_insert (by decide), bigSep_insert (by decide)]
  rfl
theorem done8 : (bigSep Finset.univ (qP c R) : sProp 𝕄)
    = iprop(qP c R 4 ∗ qP c R 5 ∗ qP c R 6 ∗ qP c R 7 ∗ bigSep (Ring.rangeSet 8 0 (8 - 4)) (qP c R)) := by
  have e : (Finset.univ : Finset (Fin 8)) = insert 4 (insert 5 (insert 6 (insert 7 (Ring.rangeSet 8 0 4)))) := by decide
  rw [e, bigSep_insert (by decide), bigSep_insert (by decide), bigSep_insert (by decide), bigSep_insert (by decide)]
  rfl

set_option backward.proofsInPublic true in
theorem bodyRun (hR : IsRes c XZ (k0_pay8 X5) (k0_pay9 X5) (k0_pay10 X5) (k0_pay11 X5) X1 X2 X3 X4 R)
    (g7 : Buf (Elt F) (arg7.view.loc (c : Thread nD τ))) (Φ : PUnit → sProp 𝕄) :
    iprop((stagedP c arg1 arg2 arg3 arg4 arg5 X1 X2 X3 X4 X5 ∗ (arg7.view.loc (c : Thread nD τ) ↦[arg7.view.set]{fullShare} g7)
        ∗ bigSep Finset.univ (zP c XZ) ∗ bigSep Finset.univ (qP c Q) ∗ ringP c ∗ (∃ W, owes (c : Thread nD τ) 0 W))
      ∗ ((stagedP c arg1 arg2 arg3 arg4 arg5 X1 X2 X3 X4 X5
          ∗ (∃ g, ⌜arg7.view.read (Elt F) g = k0_pay19 (errAt c XZ (k0_pay8 X5) (k0_pay9 X5) (k0_pay10 X5) (k0_pay11 X5) X1 X2 (Scalar.ofBits .f32 0x00000000#32) 8)⌝
              ∗ (arg7.view.loc (c : Thread nD τ) ↦[arg7.view.set]{fullShare} g))
          ∗ bigSep Finset.univ (zP c XZ) ∗ bigSep Finset.univ (qP c R) ∗ ringP c ∗ (∃ W, owes (c : Thread nD τ) 0 W)) -∗ Φ ⟨⟩))
      ⊢ wp frame (wpE (defs₀ (F := F)) 𝒱₀ (c : Thread nD τ) none) Set.univ
        (bodyG arg1 harg1 arg2 harg2 arg3 harg3 arg4 harg4 arg5 harg5 arg7 harg7) Φ := by
  rw [homes0 c XZ, ← Ring.rangeSet_univ]
  iintro ⟨⟨⟨H1, H2, H3, H4, H5⟩, H7, ⟨Hz0, Hz1, Hz2, Hz3, Hzs⟩, HQ, ⟨⟨⟨%i0, I0⟩, ⟨%i1, I1⟩, ⟨%i2, I2⟩, ⟨%i3, I3⟩⟩,
    ⟨⟨%o0, O0⟩, ⟨%o1, O1⟩, ⟨%o2, O2⟩, ⟨%o3, O3⟩⟩, ⟨CI0, CI1, CI2, CI3⟩, ⟨CO0, CO1, CO2, CO3⟩⟩, ⟨%W, HW⟩⟩, Hk⟩
  sl_exec
  have e1 := Slots.load_all (Val := Elt F) arg1 ![0, 0] (by decide) inb_S768x128_S768x128_0_0 X1
  have e2 := Slots.load_all (Val := Elt F) arg2 ![0, 0] (by decide) inb_S1x128_S1x128_0_0 X2
  have e3 := Slots.load_all (Val := Elt F) arg3 ![0, 0] (by decide) inb_S8x768_S8x768_0_0 X3
  have e4 := Slots.load_all (Val := Elt F) arg4 ![0, 0] (by decide) inb_S1x768_S1x768_0_0 X4
  have e5 := Slots.load_all (Val := Elt F) arg5 ![0, 0] (by decide) inb_S1x128_S1x128_0_0 X5
  have h23 : bodyRun.sl.v23 arg5 X5 = k0_pay8 X5 := Eq.trans rfl (congrArg k0_pay8 e5)
  have h25 : bodyRun.sl.v25 arg5 X5 = k0_pay9 X5 := Eq.trans rfl (congrArg k0_pay9 e5)
  have h26 : bodyRun.sl.v26 arg5 X5 = k0_pay10 X5 := Eq.trans rfl (congrArg k0_pay10 e5)
  have h28 : bodyRun.sl.v28 arg5 X5 = k0_pay11 X5 := Eq.trans rfl (congrArg k0_pay11 e5)
  sl_for (inv c XZ R (bodyRun.sl.v23 arg5 X5) (bodyRun.sl.v25 arg5 X5) (bodyRun.sl.v26 arg5 X5) (bodyRun.sl.v28 arg5 X5)
    (View.readAt (Elt F) arg1.view (Rect.unit ![0, 0] S768x128.size inb_S768x128_S768x128_0_0).toLoadRect (arg1.view.rep X1))
    (View.readAt (Elt F) arg2.view (Rect.unit ![0, 0] S1x128.size inb_S1x128_S1x128_0_0).toLoadRect (arg2.view.rep X2))
    bodyRun.sl.cst Q) $$ [HW Hzs CI0 CI1 CI2 CI3 O0 O1 O2 O3 CO0 CO1 CO2 CO3 HQ]
  · intro k acc
    have key := invStep c XZ R arg1 harg1 arg2 harg2 arg3 harg3 arg4 harg4 arg5 harg5 arg7 harg7 (bodyRun.sl.v23 arg5 X5) (bodyRun.sl.v25 arg5 X5) (bodyRun.sl.v26 arg5 X5) (bodyRun.sl.v28 arg5 X5)
      (View.readAt (Elt F) arg1.view (Rect.unit ![0, 0] S768x128.size inb_S768x128_S768x128_0_0).toLoadRect (arg1.view.rep X1))
      (View.readAt (Elt F) arg2.view (Rect.unit ![0, 0] S1x128.size inb_S1x128_S1x128_0_0).toLoadRect (arg2.view.rep X2))
      (View.readAt (Elt F) arg3.view (Rect.unit ![0, 0] S8x768.size inb_S8x768_S8x768_0_0).toLoadRect (arg3.view.rep X3))
      (View.readAt (Elt F) arg4.view (Rect.unit ![0, 0] S1x768.size inb_S1x768_S1x768_0_0).toLoadRect (arg4.view.rep X4)) bodyRun.sl.cst Q
      (by rw [h23, h25, h26, h28, e1, e2, e3, e4]; exact hR) k acc
    delta bodyRun.sl.prog.body_1
    exact key
  · iapply (inv_zero c XZ R (bodyRun.sl.v23 arg5 X5) (bodyRun.sl.v25 arg5 X5) (bodyRun.sl.v26 arg5 X5) (bodyRun.sl.v28 arg5 X5)
      (View.readAt (Elt F) arg1.view (Rect.unit ![0, 0] S768x128.size inb_S768x128_S768x128_0_0).toLoadRect (arg1.view.rep X1))
      (View.readAt (Elt F) arg2.view (Rect.unit ![0, 0] S1x128.size inb_S1x128_S1x128_0_0).toLoadRect (arg2.view.rep X2))
      bodyRun.sl.cst Q
      ((inS 0).view.writes (Elt F) i0 [⟨Rect.whole S2048x768, bodyRun.sl.dma0 c XZ⟩])
      ((inS 1).view.writes (Elt F) i1 [⟨Rect.whole S2048x768, bodyRun.sl.dma0_1 c XZ⟩])
      ((inS 2).view.writes (Elt F) i2 [⟨Rect.whole S2048x768, bodyRun.sl.dma0_2 c XZ⟩])
      ((inS 3).view.writes (Elt F) i3 [⟨Rect.whole S2048x768, bodyRun.sl.dma0_3 c XZ⟩])
      ((View.read_writes_whole _ _ _).trans rfl) ((View.read_writes_whole _ _ _).trans rfl)
      ((View.read_writes_whole _ _ _).trans rfl) ((View.read_writes_whole _ _ _).trans rfl) o0 o1 o2 o3)
    isplitl [HW]; · iexists W; iexact HW
    isplitl [Hzs]; · iexact Hzs
    isplitl [CI0]; · iexact CI0
    isplitl [CI1]; · iexact CI1
    isplitl [CI2]; · iexact CI2
    isplitl [CI3]; · iexact CI3
    isplitl [CO0 O0]; · isplitl [CO0] <;> iassumption
    isplitl [CO1 O1]; · isplitl [CO1] <;> iassumption
    isplitl [CO2 O2]; · isplitl [CO2] <;> iassumption
    isplitl [CO3 O3]; · isplitl [CO3] <;> iassumption
    iexact HQ
  · rw [show Scf.trips k0_t1_loop.lb k0_t1_loop.ub k0_t1_loop.st = 8 from trips_eq]
    iintro %acc Hinv
    ihave Hi := (inv_eight c XZ R (bodyRun.sl.v23 arg5 X5) (bodyRun.sl.v25 arg5 X5) (bodyRun.sl.v26 arg5 X5) (bodyRun.sl.v28 arg5 X5)
      (View.readAt (Elt F) arg1.view (Rect.unit ![0, 0] S768x128.size inb_S768x128_S768x128_0_0).toLoadRect (arg1.view.rep X1))
      (View.readAt (Elt F) arg2.view (Rect.unit ![0, 0] S1x128.size inb_S1x128_S1x128_0_0).toLoadRect (arg2.view.rep X2))
      bodyRun.sl.cst Q acc) $$ Hinv
    icases Hi with ⟨%ha, ⟨%W', HW⟩, Hz, ⟨CI0, I0⟩, ⟨CI1, I1⟩, ⟨CI2, I2⟩, ⟨CI3, I3⟩, ⟨%p0, O0⟩, ⟨%p1, O1⟩, ⟨%p2, O2⟩, ⟨%p3, O3⟩, HD⟩
    sl_exec
    sl_step
    rw [← homes0 c XZ, Ring.rangeSet_univ]
    iapply Hk
    isplitl [H1 H2 H3 H4 H5]
    · isplitl [H1]; · iexact H1
      isplitl [H2]; · iexact H2
      isplitl [H3]; · iexact H3
      isplitl [H4]; · iexact H4
      iexact H5
    isplitl [H7]
    · iexists _
      isplitr
      rotate_left
      · iexact H7
      · ipureintro
        refine (Slots.read_store_all (Val := Elt F) arg7.view ![0, 0] (by decide) inb_S1x1_S1x1_0_0 g7 _).trans ?_
        rw [ha, h23, h25, h26, h28, e1, e2]
        rfl
    isplitl [Hz]; · iexact Hz
    isplitl [O0_dst O1_dst O2_dst O3_dst HD]
    · rw [done8 c R]
      isplitl [O0_dst]; · iexact O0_dst
      isplitl [O1_dst]; · iexact O1_dst
      isplitl [O2_dst]; · iexact O2_dst
      isplitl [O3_dst]; · iexact O3_dst
      iexact HD
    isplitr [HW]
    · isplitl [I0 I1 I2 I3]
      · isplitl [I0]; · iexact I0
        isplitl [I1]; · iexact I1
        isplitl [I2]; · iexact I2
        iexact I3
      isplitl [O0_src O1_src O2_src O3_src]
      · isplitl [O0_src]; · iexists p0; iexact O0_src
        isplitl [O1_src]; · iexists p1; iexact O1_src
        isplitl [O2_src]; · iexists p2; iexact O2_src
        iexists p3; iexact O3_src
      isplitl [CI0 CI1 CI2 CI3]
      · isplitl [CI0]; · iexact CI0
        isplitl [CI1]; · iexact CI1
        isplitl [CI2]; · iexact CI2
        iexact CI3
      isplitl [O0]; · iexact O0
      isplitl [O1]; · iexact O1
      isplitl [O2]; · iexact O2
      iexact O3
    iexists _; iexact HW

end Cert.Proof.KI

end
-- ==== Proof.KIRes.lean ====
/-
  The result buffer in closed form: row `i` lies in block `i / 2048`, at row `i % 2048` of it, and holds what the trip
  of that number writes there.
-/
module

public import proofs.«01_k».proof.Proof.KITrip
public import Idealize.ShloMosaic.Lib.Pointwise.Index

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable (c : Dev nD) (XZ : Buf (Elt F) (zM.view.loc (c : Thread nD τ)))
  (v23 : FVec F S1x128 .f32) (v25 : FVec F S1x128 .f32) (v26 : IVec S1x128 1) (v28 : FVec F S1x128 .f32)
  (v40 : Vec F S768x128 .f32) (v42 : Vec F S1x128 .f32) (v44 : Vec F S8x768 .f32) (v46 : Vec F S1x768 .f32)

/-- The block a row lies in. -/
def blkOf (r : Fin 16384) : Fin 8 := ⟨r.val / 2048, by have := r.isLt; omega⟩
/-- The row's place in it. -/
def rowOf (r : Fin 16384) : Fin 2048 := ⟨r.val % 2048, Nat.mod_lt _ (by decide)⟩

/-- A block of the result's rectangle. -/
abbrev blkRect (b : Fin 8) : Rect S16384x768 := Rect.unit (s := S16384x768) (blkOff b) S2048x768.size (blkOff_inb b)

/-- Eight blocks of rows, one after the other. -/
def paste {α : Type} (g : Fin 8 → S2048x768.Idx → α) (i : S16384x768.Idx) : α := g (blkOf (i 0)) (ix2 (rowOf (i 0)) (i 1))

theorem paste_emb {α : Type} (g : Fin 8 → S2048x768.Idx → α) (b : Fin 8) (x : S2048x768.Idx) : paste g ((blkRect b).emb x) = g b x := by
  have hx : (x 0).val < 2048 := (x 0).isLt
  have h0 : (((blkRect b).emb x) 0).val = 2048 * b.val + (x 0).val := by
    show 2048 * b.val + 1 * (x 0).val = _; omega
  have h1 : (((blkRect b).emb x) 1).val = (x 1).val := by
    show 0 + 1 * (x 1).val = _; omega
  have e0 : blkOf (((blkRect b).emb x) 0) = b := Fin.ext (by
    show (((blkRect b).emb x) 0).val / 2048 = b.val
    rw [h0]; omega)
  have e1 : ix2 (rowOf (((blkRect b).emb x) 0)) (((blkRect b).emb x) 1) = x := by
    funext a
    fin_cases a
    · apply Fin.ext
      show (((blkRect b).emb x) 0).val % 2048 = (x 0).val
      rw [h0]; omega
    · exact Fin.ext h1
  exact (congrArg (fun b' => g b' _) e0).trans (congrArg (g b) e1)

/-- The result buffer. -/
def resBuf : Buf (Elt F) (qM.view.loc (c : Thread nD τ)) := paste (oblk c XZ v23 v25 v26 v28 v40 v42 v44 v46)

theorem resBuf_isRes : IsRes c XZ v23 v25 v26 v28 v40 v42 v44 v46 (resBuf c XZ v23 v25 v26 v28 v40 v42 v44 v46) := fun b =>
  funext fun x => (Slots.read_slice_whole (Val := Elt F) main_v20_0 (blkRect b) (fun _ => rfl) _ x).trans (paste_emb _ b x)

end Cert.Proof.KI

end
-- ==== Proof.KILaunch.lean ====
/-
  The launch: `z` and the result stay in the kernel's hands as their eight blocks, the two rings as their four slots,
  with the eight semaphores; the pipeline stages the five operands and the error.
-/
module

public import proofs.«01_k».proof.Proof.KIBody
public import proofs.«01_k».proof.Proof.KIRes
public import proofs.«01_k».proof.Proof.Gen.KernelIdeal.Frame

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The resource algebra of the launch. -/
local notation "𝕄" => MT nD τ sig Unit (Elt F) ℕ UU ℕ

variable (m : (ℓ : Loc nD τ sig) → Buf (Elt F) ℓ) (ρ : Dev nD → PrngReg)

/-! ## The kernel's own semaphores -/

/-- The four input slots' cells, then the four output slots'. -/
abbrev osem : Fin 8 → SemLoc sig := fun s =>
  if h : s.val < 4 then .dma (csI ⟨s.val, h⟩).sem else .dma (csO ⟨s.val - 4, by have := s.isLt; omega⟩).sem
theorem ownSemFacts : Pipeline.OwnSemFacts spec0 osem := by decide

/-! ## Element sets -/

abbrev blkSet (b : Fin 8) : Finset S16384x768.Idx := (Rect.unit (s := S16384x768) (blkOff b) S2048x768.size (blkOff_inb b)).set
abbrev slotSet (s : Fin 4) : Finset S4x2048x768.Idx := (Rect.unit (s := S4x2048x768) (slotOff s) S1x2048x768.size (slotOff_inb s)).set

theorem zB_set (b : Fin 8) : (zB b).view.set = blkSet b := View.set_slice_whole _ _
theorem qB_set (b : Fin 8) : (qB b).view.set = blkSet b := View.set_slice_whole _ _
theorem inS_set (s : Fin 4) : (inS s).view.set = slotSet s := (View.set_reshape _ _).trans (View.set_slice_whole _ _)
theorem outS_set (s : Fin 4) : (outS s).view.set = slotSet s := (View.set_reshape _ _).trans (View.set_slice_whole _ _)

theorem mem_blkSet (b : Fin 8) (y : S16384x768.Idx) : y ∈ blkSet b ↔ (y 0).val / 2048 = b.val := by
  rw [Rect.mem_set_unit]
  have h1 : (y 1).val < 768 := (y 1).isLt
  constructor
  · intro H; have a0 : 2048 * b.val ≤ (y 0).val ∧ (y 0).val < 2048 * b.val + 2048 := H 0; omega
  · intro H i; fin_cases i
    · show 2048 * b.val ≤ (y 0).val ∧ (y 0).val < 2048 * b.val + 2048; omega
    · show 0 ≤ (y 1).val ∧ (y 1).val < 0 + 768; omega
theorem mem_slotSet (s : Fin 4) (y : S4x2048x768.Idx) : y ∈ slotSet s ↔ (y 0).val = s.val := by
  rw [Rect.mem_set_unit]
  have h1 : (y 1).val < 2048 := (y 1).isLt
  have h2 : (y 2).val < 768 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2048; omega
    · show 0 ≤ (y 2).val ∧ (y 2).val < 0 + 768; omega
theorem blk_disjoint : ∀ b b' : Fin 8, b ≠ b' → Disjoint (blkSet b) (blkSet b') := by
  intro b b' hne; rw [Finset.disjoint_left]; intro y hy hy'; rw [mem_blkSet] at hy hy'; exact hne (Fin.ext (hy.symm.trans hy'))
theorem blk_cover : (Finset.univ : Finset (Fin 8)).biUnion blkSet = Finset.univ := by
  ext y; simp only [Finset.mem_biUnion, Finset.mem_univ, true_and, iff_true]
  exact ⟨blkOf (y 0), by rw [mem_blkSet]; rfl⟩
theorem slot_disjoint : ∀ s s' : Fin 4, s ≠ s' → Disjoint (slotSet s) (slotSet s') := by
  intro s s' hne; rw [Finset.disjoint_left]; intro y hy hy'; rw [mem_slotSet] at hy hy'; exact hne (Fin.ext (hy.symm.trans hy'))
theorem slot_cover : (Finset.univ : Finset (Fin 4)).biUnion slotSet = Finset.univ := by
  ext y; simp only [Finset.mem_biUnion, Finset.mem_univ, true_and, iff_true]
  exact ⟨(y 0).cast (by decide), by rw [mem_slotSet]; rfl⟩

theorem bigSep_four (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

/-- `z` whole is its eight blocks. -/
theorem z_eq (c : Dev nD) (X : Buf (Elt F) ((c : Thread nD τ).loc main_v0)) :
    (((c : Thread nD τ).loc main_v0) ↦{fullShare} X : sProp 𝕄) = bigSep Finset.univ (zP c X) := by
  rw [Ring.pointsTo_blocks (ℓ := (c : Thread nD τ).loc main_v0) blkSet blk_disjoint blk_cover]
  exact bigSep_congr fun b _ => by rw [← zB_set]; rfl
/-- The result whole is its eight blocks. -/
theorem q_eq (c : Dev nD) (X : Buf (Elt F) ((c : Thread nD τ).loc main_v20_0)) :
    (((c : Thread nD τ).loc main_v20_0) ↦{fullShare} X : sProp 𝕄) = bigSep Finset.univ (qP c X) := by
  rw [Ring.pointsTo_blocks (ℓ := (c : Thread nD τ).loc main_v20_0) blkSet blk_disjoint blk_cover]
  exact bigSep_congr fun b _ => by rw [← qB_set]; rfl

theorem slotI_eq (c : Dev nD) (s : Fin 4) (f) : slotI c s f = (((c : Thread nD τ).loc cc0_scratch0) ↦[slotSet s]{fullShare} f : sProp 𝕄) :=
  congrArg (fun S => (_ ↦[S]{fullShare} f : sProp 𝕄)) (inS_set s)
theorem slotO_eq (c : Dev nD) (s : Fin 4) (f) : slotO c s f = (((c : Thread nD τ).loc cc0_scratch1) ↦[slotSet s]{fullShare} f : sProp 𝕄) :=
  congrArg (fun S => (_ ↦[S]{fullShare} f : sProp 𝕄)) (outS_set s)

/-- The input buffer whole is its four slots, -/
theorem in_split (c : Dev nD) :
    iprop(∃ f : Buf (Elt F) ((c : Thread nD τ).loc cc0_scratch0), ((c : Thread nD τ).loc cc0_scratch0) ↦{fullShare} f)
      ⊢ (iprop((∃ g, slotI c 0 g) ∗ (∃ g, slotI c 1 g) ∗ (∃ g, slotI c 2 g) ∗ ∃ g, slotI c 3 g) : sProp 𝕄) := by
  iintro ⟨%f, H⟩
  ihave H2 := (Entails.of_eq ((Ring.pointsTo_blocks (Ix := Unit) (Name := ℕ) (U := UU) (Lvl := ℕ) (q := fullShare) (ℓ := (c : Thread nD τ).loc cc0_scratch0) slotSet slot_disjoint slot_cover f).trans (bigSep_four _))) $$ H
  icases H2 with ⟨H0, H1, H2, H3⟩
  isplitl [H0]
  · iexists f; iapply (Entails.of_eq (slotI_eq c 0 f).symm); iexact H0
  isplitl [H1]
  · iexists f; iapply (Entails.of_eq (slotI_eq c 1 f).symm); iexact H1
  isplitl [H2]
  · iexists f; iapply (Entails.of_eq (slotI_eq c 2 f).symm); iexact H2
  · iexists f; iapply (Entails.of_eq (slotI_eq c 3 f).symm); iexact H3
/-- and back. -/
theorem in_join (c : Dev nD) :
    iprop((∃ g, slotI c 0 g) ∗ (∃ g, slotI c 1 g) ∗ (∃ g, slotI c 2 g) ∗ ∃ g, slotI c 3 g)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch0) slotSet slot_disjoint slot_cover f0)
  irw [bigSep_four]
  isplitl [H0]
  · iexists f0; iapply (Entails.of_eq (slotI_eq c 0 f0)); iexact H0
  isplitl [H1]
  · iexists f1; iapply (Entails.of_eq (slotI_eq c 1 f1)); iexact H1
  isplitl [H2]
  · iexists f2; iapply (Entails.of_eq (slotI_eq c 2 f2)); iexact H2
  · iexists f3; iapply (Entails.of_eq (slotI_eq c 3 f3)); iexact H3
/-- The output buffer whole is its four slots, -/
theorem out_split (c : Dev nD) :
    iprop(∃ f : Buf (Elt F) ((c : Thread nD τ).loc cc0_scratch1), ((c : Thread nD τ).loc cc0_scratch1) ↦{fullShare} f)
      ⊢ (iprop((∃ g, slotO c 0 g) ∗ (∃ g, slotO c 1 g) ∗ (∃ g, slotO c 2 g) ∗ ∃ g, slotO c 3 g) : sProp 𝕄) := by
  iintro ⟨%f, H⟩
  ihave H2 := (Entails.of_eq ((Ring.pointsTo_blocks (Ix := Unit) (Name := ℕ) (U := UU) (Lvl := ℕ) (q := fullShare) (ℓ := (c : Thread nD τ).loc cc0_scratch1) slotSet slot_disjoint slot_cover f).trans (bigSep_four _))) $$ H
  icases H2 with ⟨H0, H1, H2, H3⟩
  isplitl [H0]
  · iexists f; iapply (Entails.of_eq (slotO_eq c 0 f).symm); iexact H0
  isplitl [H1]
  · iexists f; iapply (Entails.of_eq (slotO_eq c 1 f).symm); iexact H1
  isplitl [H2]
  · iexists f; iapply (Entails.of_eq (slotO_eq c 2 f).symm); iexact H2
  · iexists f; iapply (Entails.of_eq (slotO_eq c 3 f).symm); iexact H3
/-- and back. -/
theorem out_join (c : Dev nD) :
    iprop((∃ g, slotO c 0 g) ∗ (∃ g, slotO c 1 g) ∗ (∃ g, slotO c 2 g) ∗ ∃ g, slotO c 3 g)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch1) slotSet slot_disjoint slot_cover f0)
  irw [bigSep_four]
  isplitl [H0]
  · iexists f0; iapply (Entails.of_eq (slotO_eq c 0 f0)); iexact H0
  isplitl [H1]
  · iexists f1; iapply (Entails.of_eq (slotO_eq c 1 f1)); iexact H1
  isplitl [H2]
  · iexists f2; iapply (Entails.of_eq (slotO_eq c 2 f2)); iexact H2
  · iexists f3; iapply (Entails.of_eq (slotO_eq c 3 f3)); iexact H3

/-- The kernel's own cells at zero are the slots' cells. -/
theorem ownSems0_eq (c : Dev nD) : (Pipeline.ownSems0 (Ix := Unit) (Name := ℕ) (U := UU) (Lvl := ℕ) (Val := Elt F) (τ := τ) osem c : sProp 𝕄)
    = iprop(cellI c 0 ∗ cellI c 1 ∗ cellI c 2 ∗ cellI c 3 ∗ cellO c 0 ∗ cellO c 1 ∗ cellO c 2 ∗ cellO c 3) := by
  unfold Pipeline.ownSems0
  rw [bigSep_univ_eq_bigSepL [(0 : Fin 8), 1, 2, 3, 4, 5, 6, 7] (by decide) (by decide)]
  rfl

/-! ## The pipeline's proof data -/

/-- The error's squared sum over all blocks. -/
def errSum (c : Dev nD) : F .f32 :=
  errAt c (V m c main_v0) (k0_pay8 (iblk m c 4 t0_0)) (k0_pay9 (iblk m c 4 t0_0)) (k0_pay10 (iblk m c 4 t0_0)) (k0_pay11 (iblk m c 4 t0_0))
    (iblk m c 0 t0_0) (iblk m c 1 t0_0) (Scalar.ofBits .f32 0x00000000#32) 8
/-- The result buffer at the end. -/
def RES (c : Dev nD) : Buf (Elt F) ((c : Thread nD τ).loc main_v20_0) :=
  resBuf c (V m c main_v0) (k0_pay8 (iblk m c 4 t0_0)) (k0_pay9 (iblk m c 4 t0_0)) (k0_pay10 (iblk m c 4 t0_0)) (k0_pay11 (iblk m c 4 t0_0))
    (iblk m c 0 t0_0) (iblk m c 1 t0_0) (iblk m c 2 t0_0) (iblk m c 3 t0_0)

/-- What the kernel keeps beside the pipeline: `z`, the result at `G`, the rings. -/
def keep (c : Dev nD) (G : Buf (Elt F) ((c : Thread nD τ).loc main_v20_0)) : sProp 𝕄 :=
  iprop(bigSep Finset.univ (zP c (V m c main_v0)) ∗ bigSep Finset.univ (qP c G) ∗ ringP c)

def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay19 (errSum m c)
  Φ t := if t.val = 0 then keep m c (V m c main_v20_0) else keep m c (RES m c)
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem before_w4 (c : Dev nD) (t : Fin cfg0.N) (d) : (dats m 0 c).before 4 t d = iblk m c 4 t := by
  unfold Dat.before; rw [if_pos (fetch0_4 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = iblk m c 4 t := by dsimp only [dats]
theorem after_w5 (c : Dev nD) (t : Fin cfg0.N) : (dats m 0 c).after 5 t = k0_pay19 (errSum m c) := by dsimp only [dats]

/-! ## The body's obligation -/

theorem defs_tc : (defs₀ (F := F)) .tc cfg0.body
    = fun a => bodyG (win0_0.stage (a.2 0)) (hstage0_0 0) (win0_1.stage (a.2 1)) (hstage0_1 0) (win0_2.stage (a.2 2)) (hstage0_2 0)
        (win0_3.stage (a.2 3)) (hstage0_3 0) (win0_4.stage (a.2 4)) (hstage0_4 0) (win0_5.stage (a.2 5)) (hstage0_5 0) := rfl
theorem prog_eq (t : Fin cfg0.N) : (defs₀ (F := F)) .tc cfg0.body (cfg0.bodyArgs t (cfg0.slots t))
    = bodyG (st0_0 t) (hstage0_0 0) (st0_1 t) (hstage0_1 0) (st0_2 t) (hstage0_2 0) (st0_3 t) (hstage0_3 0) (st0_4 t) (hstage0_4 0) (st0_5 t) (hstage0_5 0) :=
  (congrFun defs_tc _).trans rfl

set_option backward.isDefEq.respectTransparency.types false in
set_option maxHeartbeats 4000000 in
theorem body_obligation (c : Dev nD) : BodyObligation (dats (F := F) m 0 c) (defs₀ (F := F)) 𝒱₀ () Set.univ := fun t => by
  obtain rfl : t = t0_0 := fin_N0 t
  rw [bigSep_W0, bigSep_W0]
  dsimp only
  simp only [before_w0, before_w1, before_w2, before_w3, before_w4, after_w0, after_w1, after_w2, after_w3, after_w4, after_w5]
  rw [show (dats m 0 c).Φ (Fin.castSucc t0_0) = keep m c (V m c main_v20_0) from rfl, show (dats m 0 c).Φ (Fin.succ t0_0) = keep m c (RES m c) from rfl]
  unfold Dat.owesAt Pipeline.owesWithin
  rw [show (dats m 0 c).owed (Fin.castSucc t0_0) = 0 from rfl, show (dats m 0 c).owed (Fin.succ t0_0) = 0 from rfl]
  unfold owns keep
  iintro ⟨⟨HZ, HQ, HR⟩, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, -, H5⟩⟩
  ihave H0' := (pointsTo_rep_entails (c : Thread nD τ) (st0_0 t0_0) g0 fullShare) $$ H0
  ihave H1' := (pointsTo_rep_entails (c : Thread nD τ) (st0_1 t0_0) g1 fullShare) $$ H1
  ihave H2' := (pointsTo_rep_entails (c : Thread nD τ) (st0_2 t0_0) g2 fullShare) $$ H2
  ihave H3' := (pointsTo_rep_entails (c : Thread nD τ) (st0_3 t0_0) g3 fullShare) $$ H3
  ihave H4' := (pointsTo_rep_entails (c : Thread nD τ) (st0_4 t0_0) g4 fullShare) $$ H4
  rw [hg0, hg1, hg2, hg3, hg4]
  sl_rw [prog_eq t0_0]
  iapply (bodyRun c (V m c main_v0) (RES m c) (V m c main_v20_0) (st0_0 t0_0) (hstage0_0 0) (st0_1 t0_0) (hstage0_1 0) (st0_2 t0_0) (hstage0_2 0)
    (st0_3 t0_0) (hstage0_3 0) (st0_4 t0_0) (hstage0_4 0) (st0_5 t0_0) (hstage0_5 0)
    (iblk m c 0 t0_0) (iblk m c 1 t0_0) (iblk m c 2 t0_0) (iblk m c 3 t0_0) (iblk m c 4 t0_0) (resBuf_isRes c _ _ _ _ _ _ _ _ _) g5)
  isplitl [H0' H1' H2' H3' H4' H5 HZ HQ HR HW]
  · isplitl [H0' H1' H2' H3' H4']
    · isplitl [H0']; · iexact H0'
      isplitl [H1']; · iexact H1'
      isplitl [H2']; · iexact H2'
      isplitl [H3']; · iexact H3'
      iexact H4'
    isplitl [H5]; · iexact H5
    isplitl [HZ]; · iexact HZ
    isplitl [HQ]; · iexact HQ
    isplitl [HR]; · iexact HR
    iexists W; iexact HW
  · iintro ⟨⟨H0, H1, H2, H3, H4⟩, ⟨%e, %he, H5⟩, HZ, HQ, HR, ⟨%W', HW⟩⟩
    isplitl [HZ HQ HR]
    · isplitl [HZ]; · iexact HZ
      isplitl [HQ]; · iexact HQ
      iexact HR
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    isplitl [H4]
    · iexists _; isplitr; · ipureintro; exact View.read_rep _ _
      iexact H4
    iexists e; isplitr; · ipureintro; exact he
    iexact H5

/-! ## The run -/

/-- The buffers the kernel keeps, after it: the result written, every other as it was. -/
def Gend (c : Dev nD) : (b : Ref sig .tc) → Buf (Elt F) ((c : Thread nD τ).loc b) :=
  Function.update (V m c) main_v20_0 (RES m c)
theorem Gend_res (c : Dev nD) : Gend m c main_v20_0 = RES m c := Function.update_self _ _ _

/-- The entry and exit of the region, as the launch theorem words them. -/
theorem phi_eq (c : Dev nD) (G : (c : Dev nD) → (b : Ref sig .tc) → Buf (Elt F) ((c : Thread nD τ).loc b)) :
    (Pipeline.ΦDRV osem spec0 {main_v0} {main_v20_0} (fun c b => V0 m c (Proc.devRef .tc b)) G c : sProp 𝕄)
      = iprop(((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f))
        ∗ (cellI c 0 ∗ cellI c 1 ∗ cellI c 2 ∗ cellI c 3 ∗ cellO c 0 ∗ cellO c 1 ∗ cellO c 2 ∗ cellO c 3)
        ∗ bigSep Finset.univ (zP c (V m c main_v0)) ∗ bigSep Finset.univ (qP c (G c main_v20_0))) := by
  unfold Pipeline.ΦDRV
  rw [scopedRest0_eq, ownSems0_eq, bigSep_singleton, bigSep_singleton]
  rw [← z_eq, ← q_eq]

theorem phi_in (c : Dev nD) :
    Pipeline.ΦDRV osem spec0 {main_v0} {main_v20_0} (fun c b => V0 m c (Proc.devRef .tc b)) (fun c b => V0 m c (Proc.devRef .tc b)) c
      ⊢ (keep m c (V m c main_v20_0) : sProp 𝕄) := by
  rw [phi_eq]
  unfold keep
  iintro ⟨⟨HI, HO⟩, ⟨I0, I1, I2, I3, O0, O1, O2, O3⟩, HZ, HQ⟩
  ihave HI' := (in_split c) $$ HI
  ihave HO' := (out_split c) $$ HO
  isplitl [HZ]; · iexact HZ
  isplitl [HQ]; · iexact HQ
  isplitl [HI']; · iexact HI'
  isplitl [HO']; · iexact HO'
  isplitl [I0 I1 I2 I3]
  · isplitl [I0]; · iexact I0
    isplitl [I1]; · iexact I1
    isplitl [I2]; · iexact I2
    iexact I3
  isplitl [O0]; · iexact O0
  isplitl [O1]; · iexact O1
  isplitl [O2]; · iexact O2
  iexact O3
theorem phi_out (c : Dev nD) :
    (keep m c (RES m c) : sProp 𝕄)
      ⊢ Pipeline.ΦDRV osem spec0 {main_v0} {main_v20_0} (fun c b => V0 m c (Proc.devRef .tc b)) (Gend m) c := by
  rw [phi_eq, Gend_res]
  unfold keep
  iintro ⟨HZ, HQ, HI, HO, ⟨I0, I1, I2, I3⟩, ⟨O0, O1, O2, O3⟩⟩
  ihave HI' := (in_join c) $$ HI
  ihave HO' := (out_join c) $$ HO
  isplitl [HI' HO']
  · isplitl [HI']; · iexact HI'
    iexact HO'
  isplitl [I0 I1 I2 I3 O0 O1 O2 O3]
  · isplitl [I0]; · iexact I0
    isplitl [I1]; · iexact I1
    isplitl [I2]; · iexact I2
    isplitl [I3]; · iexact I3
    isplitl [O0]; · iexact O0
    isplitl [O1]; · iexact O1
    isplitl [O2]; · iexact O2
    iexact O3
  isplitl [HZ]; · iexact HZ
  iexact HQ

/-- A core's buffers at the end of @main: from the region's end, through the two reshapes that follow it. -/
def Wend (c : Dev nD) : Valuation τ sig (Elt F) :=
  StableHlo.after (List.flatten [hostOps1]) (Pipeline.withArrays spec0 c (Pipeline.withR (V0 m c) {main_v20_0} c (Gend m c)) fun w => (dats m 0 c).arrAt w cfg0.N)

set_option maxHeartbeats 800000 in
theorem hmainUU : Pipeline.HMainK (Ix := Unit) (Name := ℕ) (U := UU) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The run: every buffer the pipeline does not stage ends as `Wend` says, every semaphore at zero. -/
def QEnd : PUnit × MemSt nD τ sig (Elt F) → Prop := fun r =>
  (∀ c : Dev nD, ∀ b ∈ Pipeline.restRefs sig spec0, r.2.mem ((c : Thread nD τ).loc b) = Wend m c (Proc.devRef .tc b)) ∧ r.2.sem = fun _ => 0

set_option backward.isDefEq.respectTransparency.types false in
theorem run_main : θ_run defs (onTc (τ := τ) (main (F := F))) (s₀ m ρ) (QEnd m) :=
  Pipeline.θ_run_frame_dmaR_aroundV cfgs (dats m) (0 : Fin 1) launch0 osem defs₀ 𝒱₀ ownSemFacts {main_v0} {main_v20_0}
    (by decide) (by decide) m ρ main (fun c => (body_obligation m c).loose) (fun c => (dats m 0 c).share_full fun _ => rfl) (fun _ _ => rfl)
    (V0 m) [hostOps1] sfx_sub sfx_fresh sfx_keeps (Gend m) (hmainUU m) (fun _ _ => rfl)
    (fun c => phi_in m c) (fun c => phi_out m c) (QEnd m) (fun r h => ⟨fun c b hb => (h.1 c).2 b hb, h.2⟩)

end Cert.Proof.KI

end
-- ==== Proof.KIEnd.lean ====
/-
  The end of @main: the arguments as launched, the first result the result buffer reshaped, the second the error.
-/
module

public import proofs.«01_k».proof.Proof.KILaunch
public import Idealize.ShloMosaic.Lib.StableHlo.Run
public import Idealize.ShloMosaic.Lib.Pipeline.ValueKit.Geometry

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-- A buffer that neither the region nor a line after it writes ends as the region found it. -/
theorem Wend_keep (c : Dev nD) (b : Ref sig .tc) (h1 : b ≠ main_v21) (h2 : b ≠ main_v22) (h3 : ∀ w, Pipeline.arrRef spec0 w ≠ b) (h4 : b ∉ ({main_v20_0} : Finset (Ref sig .tc))) :
    Wend m c (Proc.devRef .tc b) = V m c b := by
  unfold Wend
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact ⟨StableHlo.devRef_ne_of_ne h1, StableHlo.devRef_ne_of_ne h2⟩)),
    Pipeline.withArrays_of_ne _ c _ _ b h3, Pipeline.withR_of_not_mem _ _ c _ b h4]

/-- What the error's array holds after the region. -/
theorem arr5 (c : Dev nD) : (dats m 0 c).arrAt 5 cfg0.N = k0_pay19 (errSum m c) := by
  refine (dats m 0 c).arrAt_eq_of_after_last 5 t0_0 (by decide +kernel) _ (fun j => ?_)
  rw [after_w5]
  rfl

theorem Wend_v22 (c : Dev nD) : Wend m c (Proc.devRef .tc main_v22) = shapeCast S_ (k0_pay19 (errSum m c)) shapeCasts_S1x1_S_ := by
  unfold Wend
  have e := (Pipeline.withArrays_arr spec0 launch0.win.arr_inj c (Pipeline.withR (V0 m c) {main_v20_0} c (Gend m c)) (fun w => (dats m 0 c).arrAt w cfg0.N) 5).trans (arr5 m c)
  generalize Pipeline.withArrays spec0 c (Pipeline.withR (V0 m c) {main_v20_0} c (Gend m c)) (fun w => (dats m 0 c).arrAt w cfg0.N) = Y at e ⊢
  rw [← e]
  simp only [hostOps1, List.flatten_cons, List.flatten_nil, List.append_nil, List.cons_append, List.nil_append]
  after_results
  rfl

theorem Wend_v21 (c : Dev nD) : Wend m c (Proc.devRef .tc main_v21) = shapeCast S16x1024x768 (RES m c) shapeCasts_S16384x768_S16x1024x768 := by
  unfold Wend
  have e := ((Pipeline.withArrays_of_ne spec0 c (Pipeline.withR (V0 m c) {main_v20_0} c (Gend m c)) (fun w => (dats m 0 c).arrAt w cfg0.N) main_v20_0
    (by exact (by decide : ∀ w, Pipeline.arrRef spec0 w ≠ main_v20_0))).trans (Pipeline.withR_of_mem (V0 m c) {main_v20_0} c (Gend m c) main_v20_0 (by decide))).trans (Gend_res m c)
  generalize Pipeline.withArrays spec0 c (Pipeline.withR (V0 m c) {main_v20_0} c (Gend m c)) (fun w => (dats m 0 c).arrAt w cfg0.N) = Y at e ⊢
  rw [← e]
  simp only [hostOps1, List.flatten_cons, List.flatten_nil, List.append_nil, List.cons_append, List.nil_append]
  after_results
  rfl

/-- The run: both results, the arguments as launched, every semaphore at zero. -/
theorem run_end : θ_run defs (onTc (τ := τ) (main (F := F))) ⟨m, fun _ => 0, ρ⟩ (fun r => (∀ c : Dev nD,
      r.2.mem ((c.tc : Thread nD τ).loc main_v21) = shapeCast S16x1024x768 (RES m c) shapeCasts_S16384x768_S16x1024x768
      ∧ r.2.mem ((c.tc : Thread nD τ).loc main_v22) = shapeCast S_ (k0_pay19 (errSum m c)) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨(h.1 c main_v21 (Pipeline.mem_restRefs_of main_v21 (by decide) (by decide))).trans (Wend_v21 m c),
    (h.1 c main_v22 (Pipeline.mem_restRefs_of main_v22 (by decide) (by decide))).trans (Wend_v22 m c),
    ((h.1 c main_arg0 (Pipeline.mem_restRefs_of main_arg0 (by decide) (by decide))).trans (Wend_keep m c main_arg0 (by decide) (by decide) (by decide) (by decide))).trans (V_main_arg0 m c),
    ((h.1 c main_arg1 (Pipeline.mem_restRefs_of main_arg1 (by decide) (by decide))).trans (Wend_keep m c main_arg1 (by decide) (by decide) (by decide) (by decide))).trans (V_main_arg1 m c),
    ((h.1 c main_arg2 (Pipeline.mem_restRefs_of main_arg2 (by decide) (by decide))).trans (Wend_keep m c main_arg2 (by decide) (by decide) (by decide) (by decide))).trans (V_main_arg2 m c),
    ((h.1 c main_arg3 (Pipeline.mem_restRefs_of main_arg3 (by decide) (by decide))).trans (Wend_keep m c main_arg3 (by decide) (by decide) (by decide) (by decide))).trans (V_main_arg3 m c),
    ((h.1 c main_arg4 (Pipeline.mem_restRefs_of main_arg4 (by decide) (by decide))).trans (Wend_keep m c main_arg4 (by decide) (by decide) (by decide) (by decide))).trans (V_main_arg4 m c),
    ((h.1 c main_arg5 (Pipeline.mem_restRefs_of main_arg5 (by decide) (by decide))).trans (Wend_keep m c main_arg5 (by decide) (by decide) (by decide) (by decide))).trans (V_main_arg5 m c)⟩, h.2⟩)
    (run_main m ρ)

end Cert.Proof.KI

end
-- ==== Proof.KPBody.lean ====
/-
  The kernel's body: the prologue's four fetches, the eight trips, the error's store and the last four write-backs.
-/
module

public import proofs.«01_k».proof.Proof.KPLoop

@[expose] public section

noncomputable section

namespace Cert.Proof.KP

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch. -/
local notation "𝕄" => MT nD τ sig Unit (Elt F) ℕ UU ℕ

variable (c : Dev nD) (XZ : Buf (Elt F) (zM.view.loc (c : Thread nD τ)))
  (R : Buf (Elt F) (qM.view.loc (c : Thread nD τ))) (Q : Buf (Elt F) (qM.view.loc (c : Thread nD τ)))
  (arg1 : Memref sig .tc .vmem S768x128 .f32) (harg1 : arg1.IsWhole)
  (arg2 : Memref sig .tc .vmem S1x128 .f32) (harg2 : arg2.IsWhole)
  (arg3 : Memref sig .tc .vmem S8x768 .f32) (harg3 : arg3.IsWhole)
  (arg4 : Memref sig .tc .vmem S1x768 .f32) (harg4 : arg4.IsWhole)
  (arg5 : Memref sig .tc .vmem S1x128 .f32) (harg5 : arg5.IsWhole)
  (arg7 : Memref sig .tc .vmem S1x1 .f32) (harg7 : arg7.IsWhole)
  (X1 : Vec F S768x128 .f32) (X2 : Vec F S1x128 .f32) (X3 : Vec F S8x768 .f32) (X4 : Vec F S1x768 .f32) (X5 : Vec F S1x128 .f32)

/-- The body on given staging buffers. -/
abbrev bodyG : Prog (TpuEff nD τ sig (Elt F) Λ₀ .tc) PUnit :=
  cc0__fsq_kernel (F := F) zM (Memref.isWhole_whole _) arg1 harg1 arg2 harg2 arg3 harg3 arg4 harg4 arg5 harg5 qM (Memref.isWhole_whole _) arg7 harg7
    iM (Memref.isWhole_whole _) oM (Memref.isWhole_whole _) cc0_scratch2 cc0_scratch3

/-- The staged operands, held at their values. -/
abbrev stagedP : sProp 𝕄 := iprop((arg1.view.loc (c : Thread nD τ) ↦[arg1.view.set]{fullShare} arg1.view.rep X1)
  ∗ (arg2.view.loc (c : Thread nD τ) ↦[arg2.view.set]{fullShare} arg2.view.rep X2)
  ∗ (arg3.view.loc (c : Thread nD τ) ↦[arg3.view.set]{fullShare} arg3.view.rep X3)
  ∗ (arg4.view.loc (c : Thread nD τ) ↦[arg4.view.set]{fullShare} arg4.view.rep X4)
  ∗ (arg5.view.loc (c : Thread nD τ) ↦[arg5.view.set]{fullShare} arg5.view.rep X5))

/-- The slots and their semaphores, at rest. -/
abbrev ringP : sProp 𝕄 := iprop(
  ((∃ g, slotI c 0 g) ∗ (∃ g, slotI c 1 g) ∗ (∃ g, slotI c 2 g) ∗ (∃ g, slotI c 3 g))
  ∗ ((∃ g, slotO c 0 g) ∗ (∃ g, slotO c 1 g) ∗ (∃ g, slotO c 2 g) ∗ (∃ g, slotO c 3 g))
  ∗ (cellI c 0 ∗ cellI c 1 ∗ cellI c 2 ∗ cellI c 3) ∗ (cellO c 0 ∗ cellO c 1 ∗ cellO c 2 ∗ cellO c 3))

theorem homes0 : (bigSep Finset.univ (zP c XZ) : sProp 𝕄)
    = iprop(zP c XZ 0 ∗ zP c XZ 1 ∗ zP c XZ 2 ∗ zP c XZ 3 ∗ bigSep (Ring.homeSet 4 0) (zP c XZ)) := by
  have e : (Finset.univ : Finset (Fin 8)) = insert 0 (insert 1 (insert 2 (insert 3 (Ring.homeSet 4 0)))) := by decide
  rw [e, bigSep_insert (by decide), bigSep_insert (by decide), bigSep_insert (by decide), bigSep_insert (by decide)]
  rfl
theorem done8 : (bigSep Finset.univ (qP c R) : sProp 𝕄)
    = iprop(qP c R 4 ∗ qP c R 5 ∗ qP c R 6 ∗ qP c R 7 ∗ bigSep (Ring.rangeSet 8 0 (8 - 4)) (qP c R)) := by
  have e : (Finset.univ : Finset (Fin 8)) = insert 4 (insert 5 (insert 6 (insert 7 (Ring.rangeSet 8 0 4)))) := by decide
  rw [e, bigSep_insert (by decide), bigSep_insert (by decide), bigSep_insert (by decide), bigSep_insert (by decide)]
  rfl

set_option backward.proofsInPublic true in
set_option maxHeartbeats 400000 in
theorem bodyRun (hR : IsRes c XZ (k0_pay8 X5) (k0_pay9 X5) (k0_pay10 X5) (k0_pay11 X5) X1 X2 X3 X4 R)
    (g7 : Buf (Elt F) (arg7.view.loc (c : Thread nD τ))) (Φ : PUnit → sProp 𝕄) :
    iprop((stagedP c arg1 arg2 arg3 arg4 arg5 X1 X2 X3 X4 X5 ∗ (arg7.view.loc (c : Thread nD τ) ↦[arg7.view.set]{fullShare} g7)
        ∗ bigSep Finset.univ (zP c XZ) ∗ bigSep Finset.univ (qP c Q) ∗ ringP c ∗ (∃ W, owes (c : Thread nD τ) 0 W))
      ∗ ((stagedP c arg1 arg2 arg3 arg4 arg5 X1 X2 X3 X4 X5
          ∗ (∃ g, ⌜arg7.view.read (Elt F) g = k0_pay19 (errAt c XZ (k0_pay8 X5) (k0_pay9 X5) (k0_pay10 X5) (k0_pay11 X5) X1 X2 (Scalar.ofBits .f32 0x00000000#32) 8)⌝
              ∗ (arg7.view.loc (c : Thread nD τ) ↦[arg7.view.set]{fullShare} g))
          ∗ bigSep Finset.univ (zP c XZ) ∗ bigSep Finset.univ (qP c R) ∗ ringP c ∗ (∃ W, owes (c : Thread nD τ) 0 W)) -∗ Φ ⟨⟩))
      ⊢ wp frame (wpE (defs₀ (F := F)) 𝒱₀ (c : Thread nD τ) none) Set.univ
        (bodyG arg1 harg1 arg2 harg2 arg3 harg3 arg4 harg4 arg5 harg5 arg7 harg7) Φ := by
  rw [homes0 c XZ, ← Ring.rangeSet_univ]
  iintro ⟨⟨⟨H1, H2, H3, H4, H5⟩, H7, ⟨Hz0, Hz1, Hz2, Hz3, Hzs⟩, HQ, ⟨⟨⟨%i0, I0⟩, ⟨%i1, I1⟩, ⟨%i2, I2⟩, ⟨%i3, I3⟩⟩,
    ⟨⟨%o0, O0⟩, ⟨%o1, O1⟩, ⟨%o2, O2⟩, ⟨%o3, O3⟩⟩, ⟨CI0, CI1, CI2, CI3⟩, ⟨CO0, CO1, CO2, CO3⟩⟩, ⟨%W, HW⟩⟩, Hk⟩
  sl_exec
  have e1 := Slots.load_all (Val := Elt F) arg1 ![0, 0] (by decide) inb_S768x128_S768x128_0_0 X1
  have e2 := Slots.load_all (Val := Elt F) arg2 ![0, 0] (by decide) inb_S1x128_S1x128_0_0 X2
  have e3 := Slots.load_all (Val := Elt F) arg3 ![0, 0] (by decide) inb_S8x768_S8x768_0_0 X3
  have e4 := Slots.load_all (Val := Elt F) arg4 ![0, 0] (by decide) inb_S1x768_S1x768_0_0 X4
  have e5 := Slots.load_all (Val := Elt F) arg5 ![0, 0] (by decide) inb_S1x128_S1x128_0_0 X5
  have h23 : bodyRun.sl.r arg5 X5 = k0_pay8 X5 := Eq.trans rfl (congrArg k0_pay8 e5)
  have h25 : bodyRun.sl.r_1 arg5 X5 = k0_pay9 X5 := Eq.trans rfl (congrArg k0_pay9 e5)
  have h26 : bodyRun.sl.r_2 arg5 X5 = k0_pay10 X5 := Eq.trans rfl (congrArg k0_pay10 e5)
  have h28 : bodyRun.sl.r_3 arg5 X5 = k0_pay11 X5 := Eq.trans rfl (congrArg k0_pay11 e5)
  have key := fun k acc => invStep c XZ R arg1 harg1 arg2 harg2 arg3 harg3 arg4 harg4 arg5 harg5 arg7 harg7 (bodyRun.sl.r arg5 X5) (bodyRun.sl.r_1 arg5 X5) (bodyRun.sl.r_2 arg5 X5) (bodyRun.sl.r_3 arg5 X5)
      (View.readAt (Elt F) arg1.view (Rect.unit ![0, 0] S768x128.size inb_S768x128_S768x128_0_0).toLoadRect (arg1.view.rep X1))
      (View.readAt (Elt F) arg2.view (Rect.unit ![0, 0] S1x128.size inb_S1x128_S1x128_0_0).toLoadRect (arg2.view.rep X2))
      (View.readAt (Elt F) arg3.view (Rect.unit ![0, 0] S8x768.size inb_S8x768_S8x768_0_0).toLoadRect (arg3.view.rep X3))
      (View.readAt (Elt F) arg4.view (Rect.unit ![0, 0] S1x768.size inb_S1x768_S1x768_0_0).toLoadRect (arg4.view.rep X4)) bodyRun.sl.cst_29 Q
      (by rw [h23, h25, h26, h28, e1, e2, e3, e4]; exact hR) k acc
  sl_for (inv c XZ R (bodyRun.sl.r arg5 X5) (bodyRun.sl.r_1 arg5 X5) (bodyRun.sl.r_2 arg5 X5) (bodyRun.sl.r_3 arg5 X5)
    (View.readAt (Elt F) arg1.view (Rect.unit ![0, 0] S768x128.size inb_S768x128_S768x128_0_0).toLoadRect (arg1.view.rep X1))
    (View.readAt (Elt F) arg2.view (Rect.unit ![0, 0] S1x128.size inb_S1x128_S1x128_0_0).toLoadRect (arg2.view.rep X2))
    bodyRun.sl.cst_29 Q) $$ [HW Hzs CI0 CI1 CI2 CI3 O0 O1 O2 O3 CO0 CO1 CO2 CO3 HQ]
  · intro k acc
    have key := key k acc
    exact key
  · iapply (inv_zero c XZ R (bodyRun.sl.r arg5 X5) (bodyRun.sl.r_1 arg5 X5) (bodyRun.sl.r_2 arg5 X5) (bodyRun.sl.r_3 arg5 X5)
      (View.readAt (Elt F) arg1.view (Rect.unit ![0, 0] S768x128.size inb_S768x128_S768x128_0_0).toLoadRect (arg1.view.rep X1))
      (View.readAt (Elt F) arg2.view (Rect.unit ![0, 0] S1x128.size inb_S1x128_S1x128_0_0).toLoadRect (arg2.view.rep X2))
      bodyRun.sl.cst_29 Q
      ((inS 0).view.writes (Elt F) i0 [⟨Rect.whole S2048x768, bodyRun.sl.dma0 c XZ⟩])
      ((inS 1).view.writes (Elt F) i1 [⟨Rect.whole S2048x768, bodyRun.sl.dma0_1 c XZ⟩])
      ((inS 2).view.writes (Elt F) i2 [⟨Rect.whole S2048x768, bodyRun.sl.dma0_2 c XZ⟩])
      ((inS 3).view.writes (Elt F) i3 [⟨Rect.whole S2048x768, bodyRun.sl.dma0_3 c XZ⟩])
      ((View.read_writes_whole _ _ _).trans rfl) ((View.read_writes_whole _ _ _).trans rfl)
      ((View.read_writes_whole _ _ _).trans rfl) ((View.read_writes_whole _ _ _).trans rfl) o0 o1 o2 o3)
    isplitl [HW]; · iexists W; iexact HW
    isplitl [Hzs]; · iexact Hzs
    isplitl [CI0]; · iexact CI0
    isplitl [CI1]; · iexact CI1
    isplitl [CI2]; · iexact CI2
    isplitl [CI3]; · iexact CI3
    isplitl [CO0 O0]; · isplitl [CO0] <;> iassumption
    isplitl [CO1 O1]; · isplitl [CO1] <;> iassumption
    isplitl [CO2 O2]; · isplitl [CO2] <;> iassumption
    isplitl [CO3 O3]; · isplitl [CO3] <;> iassumption
    iexact HQ
  · rw [show Scf.trips k0_t1_loop.lb k0_t1_loop.ub k0_t1_loop.st = 8 from trips_eq]
    iintro %acc Hinv
    ihave Hi := (inv_eight c XZ R (bodyRun.sl.r arg5 X5) (bodyRun.sl.r_1 arg5 X5) (bodyRun.sl.r_2 arg5 X5) (bodyRun.sl.r_3 arg5 X5)
      (View.readAt (Elt F) arg1.view (Rect.unit ![0, 0] S768x128.size inb_S768x128_S768x128_0_0).toLoadRect (arg1.view.rep X1))
      (View.readAt (Elt F) arg2.view (Rect.unit ![0, 0] S1x128.size inb_S1x128_S1x128_0_0).toLoadRect (arg2.view.rep X2))
      bodyRun.sl.cst_29 Q acc) $$ Hinv
    icases Hi with ⟨%ha, ⟨%W', HW⟩, Hz, ⟨CI0, I0⟩, ⟨CI1, I1⟩, ⟨CI2, I2⟩, ⟨CI3, I3⟩, ⟨%p0, O0⟩, ⟨%p1, O1⟩, ⟨%p2, O2⟩, ⟨%p3, O3⟩, HD⟩
    sl_exec
    sl_step
    rw [← homes0 c XZ, Ring.rangeSet_univ]
    iapply Hk
    isplitl [H1 H2 H3 H4 H5]
    · isplitl [H1]; · iexact H1
      isplitl [H2]; · iexact H2
      isplitl [H3]; · iexact H3
      isplitl [H4]; · iexact H4
      iexact H5
    isplitl [H7]
    · iexists _
      isplitr
      rotate_left
      · iexact H7
      · ipureintro
        refine (Slots.read_store_all (Val := Elt F) arg7.view ![0, 0] (by decide) inb_S1x1_S1x1_0_0 g7 _).trans ?_
        rw [ha, h23, h25, h26, h28, e1, e2]
        rfl
    isplitl [Hz]; · iexact Hz
    isplitl [O0_dst O1_dst O2_dst O3_dst HD]
    · rw [done8 c R]
      isplitl [O0_dst]; · iexact O0_dst
      isplitl [O1_dst]; · iexact O1_dst
      isplitl [O2_dst]; · iexact O2_dst
      isplitl [O3_dst]; · iexact O3_dst
      iexact HD
    isplitr [HW]
    · isplitl [I0 I1 I2 I3]
      · isplitl [I0]; · iexact I0
        isplitl [I1]; · iexact I1
        isplitl [I2]; · iexact I2
        iexact I3
      isplitl [O0_src O1_src O2_src O3_src]
      · isplitl [O0_src]; · iexists p0; iexact O0_src
        isplitl [O1_src]; · iexists p1; iexact O1_src
        isplitl [O2_src]; · iexists p2; iexact O2_src
        iexists p3; iexact O3_src
      isplitl [CI0 CI1 CI2 CI3]
      · isplitl [CI0]; · iexact CI0
        isplitl [CI1]; · iexact CI1
        isplitl [CI2]; · iexact CI2
        iexact CI3
      isplitl [O0]; · iexact O0
      isplitl [O1]; · iexact O1
      isplitl [O2]; · iexact O2
      iexact O3
    iexists _; iexact HW

end Cert.Proof.KP

end
-- ==== Proof.KPRes.lean ====
/-
  The result buffer in closed form: row `i` lies in block `i / 2048`, at row `i % 2048` of it, and holds what the trip
  of that number writes there.
-/
module

public import proofs.«01_k».proof.Proof.KPTrip
public import Idealize.ShloMosaic.Lib.Pointwise.Index

@[expose] public section

noncomputable section

namespace Cert.Proof.KP

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (XZ : Buf (Elt F) (zM.view.loc (c : Thread nD τ)))
  (v23 : FVec F S1x128 .f32) (v25 : FVec F S1x128 .f32) (v26 : IVec S1x128 1) (v28 : FVec F S1x128 .f32)
  (v40 : Vec F S768x128 .f32) (v42 : Vec F S1x128 .f32) (v44 : Vec F S8x768 .f32) (v46 : Vec F S1x768 .f32)

/-- The block a row lies in. -/
def blkOf (r : Fin 16384) : Fin 8 := ⟨r.val / 2048, by have := r.isLt; omega⟩
/-- The row's place in it. -/
def rowOf (r : Fin 16384) : Fin 2048 := ⟨r.val % 2048, Nat.mod_lt _ (by decide)⟩

/-- A block of the result's rectangle. -/
abbrev blkRect (b : Fin 8) : Rect S16384x768 := Rect.unit (s := S16384x768) (blkOff b) S2048x768.size (blkOff_inb b)

/-- Eight blocks of rows, one after the other. -/
def paste {α : Type} (g : Fin 8 → S2048x768.Idx → α) (i : S16384x768.Idx) : α := g (blkOf (i 0)) (ix2 (rowOf (i 0)) (i 1))

theorem paste_emb {α : Type} (g : Fin 8 → S2048x768.Idx → α) (b : Fin 8) (x : S2048x768.Idx) : paste g ((blkRect b).emb x) = g b x := by
  have hx : (x 0).val < 2048 := (x 0).isLt
  have h0 : (((blkRect b).emb x) 0).val = 2048 * b.val + (x 0).val := by
    show 2048 * b.val + 1 * (x 0).val = _; omega
  have h1 : (((blkRect b).emb x) 1).val = (x 1).val := by
    show 0 + 1 * (x 1).val = _; omega
  have e0 : blkOf (((blkRect b).emb x) 0) = b := Fin.ext (by
    show (((blkRect b).emb x) 0).val / 2048 = b.val
    rw [h0]; omega)
  have e1 : ix2 (rowOf (((blkRect b).emb x) 0)) (((blkRect b).emb x) 1) = x := by
    funext a
    fin_cases a
    · apply Fin.ext
      show (((blkRect b).emb x) 0).val % 2048 = (x 0).val
      rw [h0]; omega
    · exact Fin.ext h1
  exact (congrArg (fun b' => g b' _) e0).trans (congrArg (g b) e1)

/-- The result buffer. -/
def resBuf : Buf (Elt F) (qM.view.loc (c : Thread nD τ)) := paste (oblk c XZ v23 v25 v26 v28 v40 v42 v44 v46)

theorem resBuf_isRes : IsRes c XZ v23 v25 v26 v28 v40 v42 v44 v46 (resBuf c XZ v23 v25 v26 v28 v40 v42 v44 v46) := fun b =>
  funext fun x => (Slots.read_slice_whole (Val := Elt F) main_v20_0 (blkRect b) (fun _ => rfl) _ x).trans (paste_emb _ b x)

end Cert.Proof.KP

end
-- ==== Proof.Scal.lean ====
/-
  One code, as the kernel and as the reference write it, over the extended reals; and the literals.
-/
module

public import Idealize.ShloMosaic.Lib.Pointwise
public import Idealize.ShloMosaic.PureOps.Ideal

@[expose] public section

noncomputable section

namespace Cert.Proof.Scal

open Idealize.ShloMosaic

/-- Half the range: `14 · 1.001 / 2`. -/
def half : EReal := ((7007 / 1000 : ℝ) : EReal)
/-- The temperature of a raw one. -/
def sp (t : EReal) : EReal := max t 0 + Ideal.log1p (Ideal.exp (-max t (-t)))
/-- The rounded bounded value of a projection `z` at temperature `t`. -/
def rnd (z t : EReal) : EReal := Ideal.liftRound Ideal.roundHalfEven (Ideal.tanh (Ideal.div z t) * half)
/-- The code of a projection `z` at temperature `t`. -/
def code (z t : EReal) : EReal := rnd z t * ((7 : ℝ) : EReal)⁻¹ * t

theorem lit_1000 : Ideal.ofBits .f32 0x447A0000#32 = ((1000 : ℝ) : EReal) := by
  simp [Ideal.ofBits, Ideal.ieee, -EReal.coe_mul]; norm_num
theorem lit_2 : Ideal.ofBits .f32 0x40000000#32 = ((2 : ℝ) : EReal) := by
  simp [Ideal.ofBits, Ideal.ieee, -EReal.coe_mul]; norm_num
theorem lit_n : Ideal.ofBits .f32 0x47400000#32 = ((49152 : ℝ) : EReal) := by
  simp [Ideal.ofBits, Ideal.ieee, -EReal.coe_mul]; norm_num

theorem div_coe (a : EReal) (r : ℝ) (hr : r ≠ 0) : Ideal.div a (r : EReal) = a * (((1 / r : ℝ)) : EReal) := by
  have h : ((r : ℝ) : EReal) ≠ 0 := by exact_mod_cast hr
  rw [Ideal.div, if_neg h, ← EReal.coe_inv, one_div]

theorem tanh_real (x : EReal) : ∃ r : ℝ, Ideal.tanh x = (r : EReal) := by
  induction x with
  | bot => exact ⟨-1, by show (-1 : EReal) = _; rw [EReal.coe_neg, EReal.coe_one]⟩
  | top => exact ⟨1, by show (1 : EReal) = _; rw [EReal.coe_one]⟩
  | coe r => exact ⟨Real.tanh r, rfl⟩

/-- The bounded value is a real number. -/
theorem bound_real (x : EReal) : ∃ r : ℝ, Ideal.tanh x * half = (r : EReal) := by
  obtain ⟨r, h⟩ := tanh_real x
  exact ⟨r * (7007 / 1000), by rw [h, half, ← EReal.coe_mul]⟩

/-- Adding the rounding error to a real number rounds it. -/
theorem ste (b : EReal) (h : ∃ r : ℝ, b = (r : EReal)) :
    b + (Ideal.liftRound Ideal.roundHalfEven b - b) = Ideal.liftRound Ideal.roundHalfEven b := by
  obtain ⟨r, rfl⟩ := h
  show (r : EReal) + (((Ideal.roundHalfEven r : ℝ) : EReal) - (r : EReal)) = ((Ideal.roundHalfEven r : ℝ) : EReal)
  rw [← EReal.coe_sub, ← EReal.coe_add, add_sub_cancel]

/-- The kernel's code: the projection times the temperature's reciprocal, the rounded value times the temperature's seventh. -/
theorem code_kernel (z t : EReal) :
    Ideal.liftRound Ideal.roundHalfEven (Ideal.tanh (z * Ideal.div 1 t) * half) * (t * ((1 / 7 : ℝ) : EReal)) = code z t := by
  by_cases ht : t = 0
  · subst ht; simp [code]
  · have e : z * Ideal.div 1 t = Ideal.div z t := by rw [Ideal.div, Ideal.div, if_neg ht, if_neg ht, one_mul]
    rw [e, code, rnd, ← EReal.coe_inv, one_div, mul_assoc, mul_comm t]

/-- The reference's code, from its own bounded value. -/
theorem code_ref (z t b : EReal) (hb : b = Ideal.tanh (Ideal.div z t) * half) :
    Ideal.div (b + (Ideal.liftRound Ideal.roundHalfEven b - b)) ((7 : ℝ) : EReal) * t = code z t := by
  rw [ste b (hb ▸ bound_real _), hb, div_coe _ 7 (by norm_num), one_div, EReal.coe_inv, code, rnd]

theorem tanh_zero : Ideal.tanh 0 = 0 := by
  show ((Real.tanh 0 : ℝ) : EReal) = 0
  simp
theorem round_zero : Ideal.liftRound Ideal.roundHalfEven 0 = 0 := by
  show (((Ideal.roundHalfEven 0 : ℤ) : ℝ) : EReal) = 0
  simp [Ideal.roundHalfEven]
theorem atanh_zero : Ideal.atanh 0 = 0 := by
  show (if (0:ℝ) = 1 then ⊤ else if (0:ℝ) = -1 then ⊥ else if -1 < (0:ℝ) ∧ (0:ℝ) < 1 then (Real.artanh 0 : EReal) else ⊥) = 0
  simp

/-- The code of nothing is nothing. -/
theorem code_zero (t : EReal) : code 0 t = 0 := by
  rw [← code_kernel]; simp [tanh_zero, round_zero]

end Cert.Proof.Scal
end
-- ==== Proof.KIAt.lean ====
/-
  The kernel's arithmetic read at one index: a block of codes, a block of the result, a block's share of the error.
-/
module

public import proofs.«01_k».proof.Proof.KIRes
public import proofs.«01_k».proof.Proof.KILoop
public import proofs.«01_k».proof.Proof.Scal
public import Idealize.ShloMosaic.Lib.Pointwise
public import Idealize.ShloMosaic.Lib.Tactic.CleanTypes

@[expose] public section

set_option maxRecDepth 16384

noncomputable section

namespace Cert.Proof.KI

open Cert.KernelIdeal Cert.KernelIdeal.Gen
open Idealize.ShloMosaic Idealize.ShloMosaic.TcCoe Idealize.SL.Sem
open Cert.Proof.Scal

/-- The temperature of a lane. -/
theorem pay12_at (v : Vec Ideal S1x128 .f32) (k : Fin 128) :
    k0_pay12 (k0_pay8 v) (k0_pay9 v) (k0_pay10 (F := Ideal) v) (k0_pay11 v) (ix2 0 k) = sp (v (ix2 0 k)) := by
  pointwise [k0_pay12, k0_pay8, k0_pay9, k0_pay10, k0_pay11, k0_pay7]
  rw [if_neg (fun h => h rfl), zero_sub]
  rfl

/-- Its reciprocal. -/
theorem pay13_at (v : Vec Ideal S1x128 .f32) (k : Fin 128) :
    k0_pay13 (k0_pay8 v) (k0_pay9 v) (k0_pay10 (F := Ideal) v) (k0_pay11 v) (ix2 0 k) = Ideal.div 1 (sp (v (ix2 0 k))) := by
  rw [← pay12_at]
  pointwise [k0_pay13]

/-- The scale of a lane: a seventh of the temperature. -/
theorem pay14_at (v : Vec Ideal S1x128 .f32) (k : Fin 128) :
    k0_pay14 (k0_pay8 v) (k0_pay9 v) (k0_pay10 (F := Ideal) v) (k0_pay11 v) (ix2 0 k) = sp (v (ix2 0 k)) * ((1 / 7 : ℝ) : EReal) := by
  rw [← pay12_at]
  pointwise [k0_pay14]
  rw [IdealRules.named_const.ideal_named_scalar κ "inv_half_width" (φ := .f32) 0x3E124925#32 ((1 / 7 : ℝ) : EReal) rfl]

variable (c : Dev nD) (XZ : Buf (Elt Ideal) (zM.view.loc (c : Thread nD τ)))

/-- Block `b` of the rows at one place. -/
theorem zread_at (b : Fin 8) (r : Fin 2048) (x : Fin 768) :
    zread c XZ b (ix2 r x) = (XZ : S16384x768.Idx → EReal) (ix2 ⟨2048 * b.val + r.val, by omega⟩ x) := by
  refine (Slots.read_slice_whole (Val := Elt Ideal) main_v0 (blkRect b) (fun _ => rfl) XZ (ix2 r x)).trans ?_
  refine congrArg XZ ?_
  funext a
  fin_cases a
  · apply Fin.ext; show 2048 * b.val + 1 * r.val = 2048 * b.val + r.val; omega
  · apply Fin.ext; show 0 + 1 * x.val = x.val; omega

/-- The same as the trip loads it. -/
theorem vblk_at (b : Fin 8) (r : Fin 2048) (x : Fin 768) :
    vblk c XZ b (ix3 0 r x) = (XZ : S16384x768.Idx → EReal) (ix2 ⟨2048 * b.val + r.val, by omega⟩ x) := by
  refine Eq.trans ?_ (zread_at c XZ b r x)
  pointwise [vblk]

variable (T : Vec Ideal S1x128 .f32) (W : Vec Ideal S768x128 .f32) (B : Vec Ideal S1x128 .f32) (O : Vec Ideal S8x768 .f32) (Q : Vec Ideal S1x768 .f32)

/-- The projection of a row on a lane. -/
def proj (Z : S16384x768.Idx → EReal) (W : S768x128.Idx → EReal) (B : S1x128.Idx → EReal) (r : Fin 16384) (k : Fin 128) : EReal :=
  (∑ x : Fin 768, Z (ix2 r x) * W (ix2 x k)) + B (ix2 0 k)

/-- A block's projection is the projection of its rows. -/
theorem pay1_at (b : Fin 8) (r : Fin 2048) (k : Fin 128) :
    k0_pay1 (k0_pay15 W) (k0_pay16 B) (vblk c XZ b) (ix2 r k) = proj XZ W B ⟨2048 * b.val + r.val, by omega⟩ k := by
  have e : k0_pay1 (k0_pay15 W) (k0_pay16 B) (vblk c XZ b) (ix2 r k) = (∑ x : Fin 768, vblk c XZ b (ix3 0 r x) * W (ix2 x k)) + B (ix2 0 k) := by
    pointwise [k0_pay1, k0_pay15, k0_pay16]
  rw [e, proj]
  simp only [vblk_at]

/-- A block's codes are the codes of its rows. -/
theorem pay2_at (b : Fin 8) (r : Fin 2048) (k : Fin 128) :
    k0_pay2 (k0_pay13 (k0_pay8 T) (k0_pay9 T) (k0_pay10 (F := Ideal) T) (k0_pay11 T)) (k0_pay14 (k0_pay8 T) (k0_pay9 T) (k0_pay10 (F := Ideal) T) (k0_pay11 T)) (k0_pay15 W) (k0_pay16 B) (vblk c XZ b) (ix2 r k)
      = code (proj XZ W B ⟨2048 * b.val + r.val, by omega⟩ k) (sp (T (ix2 0 k))) := by
  rw [← code_kernel, ← pay1_at c XZ W B, ← pay13_at, ← pay14_at]
  generalize k0_pay13 (k0_pay8 T) (k0_pay9 T) (k0_pay10 (F := Ideal) T) (k0_pay11 T) = p13
  generalize k0_pay14 (k0_pay8 T) (k0_pay9 T) (k0_pay10 (F := Ideal) T) (k0_pay11 T) = p14
  generalize k0_pay15 W = W'
  generalize k0_pay16 B = B'
  generalize vblk c XZ b = v
  pointwise [k0_pay2]
  rw [IdealRules.named_const.ideal_named_scalar κ "half_l" (φ := .f32) 0x40E03958#32 ((7007 / 1000 : ℝ) : EReal) rfl]
  rfl

/-- The square of one code's distance from its projection. -/
def sq (Z : S16384x768.Idx → EReal) (W : S768x128.Idx → EReal) (B T : S1x128.Idx → EReal) (r : Fin 16384) (k : Fin 128) : EReal :=
  (proj Z W B r k - code (proj Z W B r k) (sp (T (ix2 0 k)))) * (proj Z W B r k - code (proj Z W B r k) (sp (T (ix2 0 k))))

/-- One trip adds the squares of its block. -/
theorem accN_at (a : EReal) (b : Fin 8) :
    accN c XZ (k0_pay8 T) (k0_pay9 T) (k0_pay10 (F := Ideal) T) (k0_pay11 T) W B a b
      = a + ∑ r : Fin 2048, ∑ k : Fin 128, sq XZ W B T ⟨2048 * b.val + r.val, by omega⟩ k := by
  have e : accN c XZ (k0_pay8 T) (k0_pay9 T) (k0_pay10 (F := Ideal) T) (k0_pay11 T) W B a b
      = a + ∑ r : Fin 2048, ∑ k : Fin 128,
        (k0_pay1 (k0_pay15 W) (k0_pay16 B) (vblk c XZ b) (ix2 r k) - k0_pay2 (k0_pay13 (k0_pay8 T) (k0_pay9 T) (k0_pay10 (F := Ideal) T) (k0_pay11 T)) (k0_pay14 (k0_pay8 T) (k0_pay9 T) (k0_pay10 (F := Ideal) T) (k0_pay11 T)) (k0_pay15 W) (k0_pay16 B) (vblk c XZ b) (ix2 r k))
        * (k0_pay1 (k0_pay15 W) (k0_pay16 B) (vblk c XZ b) (ix2 r k) - k0_pay2 (k0_pay13 (k0_pay8 T) (k0_pay9 T) (k0_pay10 (F := Ideal) T) (k0_pay11 T)) (k0_pay14 (k0_pay8 T) (k0_pay9 T) (k0_pay10 (F := Ideal) T) (k0_pay11 T)) (k0_pay15 W) (k0_pay16 B) (vblk c XZ b) (ix2 r k)) := by
    unfold accN
    generalize k0_pay13 (k0_pay8 T) (k0_pay9 T) (k0_pay10 (F := Ideal) T) (k0_pay11 T) = p13
    generalize k0_pay14 (k0_pay8 T) (k0_pay9 T) (k0_pay10 (F := Ideal) T) (k0_pay11 T) = p14
    generalize k0_pay15 W = W'
    generalize k0_pay16 B = B'
    generalize vblk c XZ b = v
    pointwise [k0_pay3]
  rw [e]
  simp only [pay2_at, pay1_at, sq]

/-- The error after `n` trips. -/
theorem errAt_at (a : EReal) (n : ℕ) :
    errAt c XZ (k0_pay8 T) (k0_pay9 T) (k0_pay10 (F := Ideal) T) (k0_pay11 T) W B a n
      = a + ∑ b ∈ Finset.range n, ∑ r : Fin 2048, ∑ k : Fin 128, sq XZ W B T ⟨2048 * (Ring.bk 8 b).val + r.val, by omega⟩ k := by
  induction n with
  | zero => rw [Finset.sum_range_zero, add_zero]; rfl
  | succ n ih =>
    rw [Finset.sum_range_succ, ← add_assoc, ← ih]
    exact accN_at c XZ T W B _ _

/-- The last line multiplies by the reciprocal of the number of codes. -/
theorem pay19_at (a : EReal) : shapeCast S_ (k0_pay19 (F := Ideal) a) shapeCasts_S1x1_S_ = fun _ => a * ((1 / 49152 : ℝ) : EReal) := by
  funext i
  rw [← IdealRules.named_const.ideal_named_scalar κ "inv_n" (φ := .f32) 0x37AAAAAB#32 ((1 / 49152 : ℝ) : EReal) rfl]
  obtain rfl : i = ix0 := funext fun a => a.elim0
  pointwise [k0_pay19]

/-- A block of the result at one place. -/
theorem oblk_at (b : Fin 8) (r : Fin 2048) (k : Fin 768) :
    oblk c XZ (k0_pay8 T) (k0_pay9 T) (k0_pay10 (F := Ideal) T) (k0_pay11 T) W B O Q b (ix2 r k)
      = code (proj XZ W B ⟨2048 * b.val + r.val, by omega⟩ 0) (sp (T (ix2 0 0))) * O (ix2 0 k)
        + code (proj XZ W B ⟨2048 * b.val + r.val, by omega⟩ 1) (sp (T (ix2 0 1))) * O (ix2 1 k)
        + code (proj XZ W B ⟨2048 * b.val + r.val, by omega⟩ 2) (sp (T (ix2 0 2))) * O (ix2 2 k) + Q (ix2 0 k) := by
  rw [← pay2_at c XZ T W B, ← pay2_at c XZ T W B, ← pay2_at c XZ T W B]
  unfold oblk oraw
  generalize k0_pay13 (k0_pay8 T) (k0_pay9 T) (k0_pay10 (F := Ideal) T) (k0_pay11 T) = p13
  generalize k0_pay14 (k0_pay8 T) (k0_pay9 T) (k0_pay10 (F := Ideal) T) (k0_pay11 T) = p14
  generalize k0_pay15 W = W'
  generalize k0_pay16 B = B'
  generalize vblk c XZ b = v
  pointwise [k0_pay18, k0_pay17, k0_pay4, k0_pay5, k0_pay6]

/-- The whole result at one place. -/
theorem resBuf_at (i : Fin 16) (j : Fin 1024) (k : Fin 768) :
    shapeCast S16x1024x768 (resBuf c XZ (k0_pay8 T) (k0_pay9 T) (k0_pay10 (F := Ideal) T) (k0_pay11 T) W B O Q) shapeCasts_S16384x768_S16x1024x768 (ix3 i j k)
      = code (proj XZ W B ⟨i.val * 1024 + j.val, by omega⟩ 0) (sp (T (ix2 0 0))) * O (ix2 0 k)
        + code (proj XZ W B ⟨i.val * 1024 + j.val, by omega⟩ 1) (sp (T (ix2 0 1))) * O (ix2 1 k)
        + code (proj XZ W B ⟨i.val * 1024 + j.val, by omega⟩ 2) (sp (T (ix2 0 2))) * O (ix2 2 k) + Q (ix2 0 k) := by
  have e : shapeCast S16x1024x768 (resBuf c XZ (k0_pay8 T) (k0_pay9 T) (k0_pay10 (F := Ideal) T) (k0_pay11 T) W B O Q) shapeCasts_S16384x768_S16x1024x768 (ix3 i j k)
      = (resBuf c XZ (k0_pay8 T) (k0_pay9 T) (k0_pay10 (F := Ideal) T) (k0_pay11 T) W B O Q : S16384x768.Idx → EReal) (ix2 ⟨i.val * 1024 + j.val, by omega⟩ k) := by
    generalize resBuf c XZ (k0_pay8 T) (k0_pay9 T) (k0_pay10 (F := Ideal) T) (k0_pay11 T) W B O Q = g
    clean_types
    pointwise
  rw [e]
  have h : (⟨2048 * (blkOf ⟨i.val * 1024 + j.val, by omega⟩).val + (rowOf ⟨i.val * 1024 + j.val, by omega⟩).val, by
      have := (blkOf ⟨i.val * 1024 + j.val, by omega⟩).isLt; have := (rowOf ⟨i.val * 1024 + j.val, by omega⟩).isLt; omega⟩ : Fin 16384) = ⟨i.val * 1024 + j.val, by omega⟩ := by
    apply Fin.ext
    show 2048 * ((i.val * 1024 + j.val) / 2048) + (i.val * 1024 + j.val) % 2048 = i.val * 1024 + j.val
    exact Nat.div_add_mod _ _
  have q := oblk_at c XZ T W B O Q (blkOf ⟨i.val * 1024 + j.val, by omega⟩) (rowOf ⟨i.val * 1024 + j.val, by omega⟩) k
  rw [h] at q
  exact q

end Cert.Proof.KI
end
-- ==== Proof.Pad.lean ====
/-
  The operands that the host pads with zeros, read at an index: the first three code dimensions hold the argument,
  the rest holds nothing.
-/
module

public import proofs.«01_k».proof.KernelIdeal
public import Idealize.ShloMosaic.Lib.Pointwise
public import Idealize.ShloMosaic.Lib.Routing.OpsPair
public import Idealize.ShloMosaic.Lib.Routing.OpsSet

@[expose] public section

noncomputable section

namespace Cert.Proof.Pad

open Cert.KernelIdeal
open Idealize.ShloMosaic Idealize.ShloMosaic.TcCoe Idealize.SL.Sem
open Idealize.ShloMosaic.Routing

variable [Facts]

/-- A scatter whose index words are zero starts at the origin. -/
theorem start_zero {s si u : Shape} {w : Nat} (d : ScatterDims s si u) (k : u.Idx) (idx : IVec si w) (h : ∀ i, idx i = 0#w) (a : Fin s.rank) :
    d.start k idx a = 0 := by
  unfold ScatterDims.start
  split
  · rw [h]; exact BitVec.toInt_zero
  · rfl

/-- An update of the projection's weights lands at its own place. -/
theorem lands_w (idx : IVec S1 32) (h : ∀ i, idx i = 0#32) (a : Fin 768) (b : Fin 3) (r : Fin 768) (k : Fin 128) :
    scatter_S768x128_S1_S768x3_01_n_1_0.resultIdx? (ix2 a b) idx = some (ix2 r k) ↔ a = r ∧ b.val = k.val := by
  rw [resultIdx?_eq_some]
  have w0 : scatter_S768x128_S1_S768x3_01_n_1_0.window (ix2 a b) (0 : Fin 2) = a.val := rfl
  have w1 : scatter_S768x128_S1_S768x3_01_n_1_0.window (ix2 a b) (1 : Fin 2) = b.val := rfl
  constructor
  · intro H
    have h0 := H (0 : Fin 2)
    have h1 := H (1 : Fin 2)
    rw [start_zero _ _ _ h, w0] at h0
    rw [start_zero _ _ _ h, w1] at h1
    have e0 : (a.val : Int) = (r.val : Int) := (zero_add _).symm.trans h0
    have e1 : (b.val : Int) = (k.val : Int) := (zero_add _).symm.trans h1
    exact ⟨Fin.ext (by omega), by omega⟩
  · rintro ⟨rfl, e⟩ x
    rw [start_zero _ _ _ h, zero_add]
    match x with
    | ⟨0, _⟩ => exact congrArg Nat.cast w0
    | ⟨1, _⟩ => exact congrArg Nat.cast (w1.trans e)

/-- The padded rows of the expansion's weights. -/
theorem lands_o (idx : IVec S1 32) (h : ∀ i, idx i = 0#32) (a : Fin 3) (b : Fin 768) (r : Fin 8) (k : Fin 768) :
    scatter_S8x768_S1_S3x768_01_n_0_0.resultIdx? (ix2 a b) idx = some (ix2 r k) ↔ a.val = r.val ∧ b = k := by
  rw [resultIdx?_eq_some]
  have w0 : scatter_S8x768_S1_S3x768_01_n_0_0.window (ix2 a b) (0 : Fin 2) = a.val := rfl
  have w1 : scatter_S8x768_S1_S3x768_01_n_0_0.window (ix2 a b) (1 : Fin 2) = b.val := rfl
  constructor
  · intro H
    have h0 := H (0 : Fin 2)
    have h1 := H (1 : Fin 2)
    rw [start_zero _ _ _ h, w0] at h0
    rw [start_zero _ _ _ h, w1] at h1
    have e0 : (a.val : Int) = (r.val : Int) := (zero_add _).symm.trans h0
    have e1 : (b.val : Int) = (k.val : Int) := (zero_add _).symm.trans h1
    exact ⟨by omega, Fin.ext (by omega)⟩
  · rintro ⟨e, rfl⟩ x
    rw [start_zero _ _ _ h, zero_add]
    match x with
    | ⟨0, _⟩ => exact congrArg Nat.cast (w0.trans e)
    | ⟨1, _⟩ => exact congrArg Nat.cast w1

/-- The padded entries of a vector of three. -/
theorem lands_v (idx : IVec S2 32) (h : ∀ i, idx i = 0#32) (b : Fin 3) (k : Fin 128) :
    scatter_S1x128_S2_S3_0_0_01_0.resultIdx? (ix1 b) idx = some (ix2 0 k) ↔ b.val = k.val := by
  rw [resultIdx?_eq_some]
  have w0 : scatter_S1x128_S2_S3_0_0_01_0.window (ix1 b) (0 : Fin 2) = 0 := rfl
  have w1 : scatter_S1x128_S2_S3_0_0_01_0.window (ix1 b) (1 : Fin 2) = b.val := rfl
  constructor
  · intro H
    have h1 := H (1 : Fin 2)
    rw [start_zero _ _ _ h, w1] at h1
    have e1 : (b.val : Int) = (k.val : Int) := (zero_add _).symm.trans h1
    omega
  · intro e x
    rw [start_zero _ _ _ h, zero_add]
    match x with
    | ⟨0, _⟩ => exact congrArg Nat.cast w0
    | ⟨1, _⟩ => exact congrArg Nat.cast (w1.trans e)

variable {α : Type}

/-- The padded weights of the projection, read at a place. -/
theorem scat_w (x0 : S768x128.Idx → α) (idx : IVec S1 32) (h : ∀ i, idx i = 0#32) (u : S768x3.Idx → α) (r : Fin 768) (k : Fin 128) :
    Host.scatter scatter_S768x128_S1_S768x3_01_n_1_0 (fun _ b => b) x0 idx u (ix2 r k) = if hk : k.val < 3 then u (ix2 r ⟨k.val, hk⟩) else x0 (ix2 r k) := by
  split
  · next hk =>
    refine scatter_set_hit _ x0 idx u _ _ (fun j hj => ?_) (ix2 r ⟨k.val, hk⟩) ((lands_w idx h _ _ _ _).2 ⟨rfl, rfl⟩)
    obtain ⟨a, b, rfl⟩ : ∃ (a : Fin 768) (b : Fin 3), j = ix2 a b := ⟨j 0, j 1, eq_ix2 j⟩
    obtain ⟨rfl, e⟩ := (lands_w idx h _ _ _ _).1 hj
    exact congrArg (fun b => u (ix2 a b)) (Fin.ext e)
  · next hk =>
    refine scatter_set_miss _ x0 idx u _ (fun j hj => hk ?_)
    obtain ⟨a, b, rfl⟩ : ∃ (a : Fin 768) (b : Fin 3), j = ix2 a b := ⟨j 0, j 1, eq_ix2 j⟩
    obtain ⟨_, e⟩ := (lands_w idx h _ _ _ _).1 hj
    have := b.isLt
    omega

/-- The padded weights of the expansion, read at a row that is not padding. -/
theorem scat_o (x0 : S8x768.Idx → α) (idx : IVec S1 32) (h : ∀ i, idx i = 0#32) (u : S3x768.Idx → α) (r : Fin 3) (r' : Fin 8) (hr : r.val = r'.val) (k : Fin 768) :
    Host.scatter scatter_S8x768_S1_S3x768_01_n_0_0 (fun _ b => b) x0 idx u (ix2 r' k) = u (ix2 r k) := by
  refine scatter_set_hit _ x0 idx u _ _ (fun j hj => ?_) (ix2 r k) ((lands_o idx h _ _ _ _).2 ⟨hr, rfl⟩)
  obtain ⟨a, b, rfl⟩ : ∃ (a : Fin 3) (b : Fin 768), j = ix2 a b := ⟨j 0, j 1, eq_ix2 j⟩
  obtain ⟨e, rfl⟩ := (lands_o idx h _ _ _ _).1 hj
  exact congrArg (fun a => u (ix2 a b)) (Fin.ext (e.trans hr.symm))

/-- A padded vector of three, read at a place. -/
theorem scat_v (x0 : S1x128.Idx → α) (idx : IVec S2 32) (h : ∀ i, idx i = 0#32) (u : S3.Idx → α) (k : Fin 128) :
    Host.scatter scatter_S1x128_S2_S3_0_0_01_0 (fun _ b => b) x0 idx u (ix2 0 k) = if hk : k.val < 3 then u (ix1 ⟨k.val, hk⟩) else x0 (ix2 0 k) := by
  split
  · next hk =>
    refine scatter_set_hit _ x0 idx u _ _ (fun j hj => ?_) (ix1 ⟨k.val, hk⟩) ((lands_v idx h _ _).2 rfl)
    obtain ⟨b, rfl⟩ : ∃ b : Fin 3, j = ix1 b := ⟨j 0, eq_ix1 j⟩
    exact congrArg (fun b => u (ix1 b)) (Fin.ext ((lands_v idx h _ _).1 hj))
  · next hk =>
    refine scatter_set_miss _ x0 idx u _ (fun j hj => hk ?_)
    obtain ⟨b, rfl⟩ : ∃ b : Fin 3, j = ix1 b := ⟨j 0, eq_ix1 j⟩
    have e := (lands_v idx h _ _).1 hj
    have := b.isLt
    omega

end Cert.Proof.Pad
end
-- ==== Proof.KIHost.lean ====
/-
  The operands of the kernel read at an index, as the launch's arguments.
-/
module

public import proofs.«01_k».proof.Proof.KILaunch
public import proofs.«01_k».proof.Proof.Pad
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Point

@[expose] public section

set_option maxRecDepth 16384

noncomputable section

namespace Cert.Proof.KI

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The rows, reshaped. -/
theorem v0_eq : V m c main_v0 = shapeCast S16384x768 (m ((c.tc : Thread nD τ).loc main_arg0)) shapeCasts_S16x1024x768_S16384x768 := by
  unfold V V0
  after_reads_simp
  rfl

/-- The expansion's bias, reshaped. -/
theorem v14_eq : V m c main_v14 = shapeCast S1x768 (m ((c.tc : Thread nD τ).loc main_arg4)) shapeCasts_S768_S1x768 := by
  unfold V V0
  after_reads_simp
  rfl

/-- The projection's weights, turned and padded. -/
theorem v4_eq : (V m c main_v4 : S768x128.Idx → EReal) = Host.scatter scatter_S768x128_S1_S768x3_01_n_1_0 (fun _ b => b)
    (broadcastInDim S768x128 ![] bcast_S_S768x128 (constant (F := Ideal) S_ .f32 0x00000000#32)) (broadcastInDim S1 ![] bcast_S_S1 (constantI S_ 32 0#32))
    (transpose S768x3 [1, 0] (m ((c.tc : Thread nD τ).loc main_arg1)) transposes_S3x768_S768x3_1_0) := by
  unfold V V0
  after_reads_simp

/-- The expansion's weights, turned and padded. -/
theorem v13_eq : (V m c main_v13 : S8x768.Idx → EReal) = Host.scatter scatter_S8x768_S1_S3x768_01_n_0_0 (fun _ b => b)
    (broadcastInDim S8x768 ![] bcast_S_S8x768 (constant (F := Ideal) S_ .f32 0x00000000#32)) (broadcastInDim S1 ![] bcast_S_S1 (constantI S_ 32 0#32))
    (transpose S3x768 [1, 0] (m ((c.tc : Thread nD τ).loc main_arg3)) transposes_S768x3_S3x768_1_0) := by
  unfold V V0
  after_reads_simp

/-- The projection's bias, padded. -/
theorem v9_eq : (V m c main_v9 : S1x128.Idx → EReal) = Host.scatter scatter_S1x128_S2_S3_0_0_01_0 (fun _ b => b)
    (broadcastInDim S1x128 ![] bcast_S_S1x128 (constant (F := Ideal) S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0)
    (m ((c.tc : Thread nD τ).loc main_arg2)) := by
  unfold V V0
  after_reads_simp
  rfl

/-- The raw temperatures, padded. -/
theorem v19_eq : (V m c main_v19 : S1x128.Idx → EReal) = Host.scatter scatter_S1x128_S2_S3_0_0_01_0 (fun _ b => b)
    (broadcastInDim S1x128 ![] bcast_S_S1x128 (constant (F := Ideal) S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0)
    (m ((c.tc : Thread nD τ).loc main_arg5)) := by
  unfold V V0
  after_reads_simp
  rfl

/-- A staged operand is the whole array. -/
theorem iblk0_eq : (iblk m c 0 t0_0 : S768x128.Idx → EReal) = V m c main_v4 := by
  have h0 : win0_0.index t0_0 0 = 0 := by decide +kernel
  have h1 : win0_0.index t0_0 1 = 0 := by decide +kernel
  funext i
  blk_ext [Gen.iblk, h0, h1]

theorem iblk1_eq : (iblk m c 1 t0_0 : S1x128.Idx → EReal) = V m c main_v9 := by
  have h0 : win0_1.index t0_0 0 = 0 := by decide +kernel
  have h1 : win0_1.index t0_0 1 = 0 := by decide +kernel
  funext i
  blk_ext [Gen.iblk, h0, h1]

theorem iblk2_eq : (iblk m c 2 t0_0 : S8x768.Idx → EReal) = V m c main_v13 := by
  have h0 : win0_2.index t0_0 0 = 0 := by decide +kernel
  have h1 : win0_2.index t0_0 1 = 0 := by decide +kernel
  funext i
  blk_ext [Gen.iblk, h0, h1]

theorem iblk3_eq : (iblk m c 3 t0_0 : S1x768.Idx → EReal) = V m c main_v14 := by
  have h0 : win0_3.index t0_0 0 = 0 := by decide +kernel
  have h1 : win0_3.index t0_0 1 = 0 := by decide +kernel
  funext i
  blk_ext [Gen.iblk, h0, h1]

theorem iblk4_eq : (iblk m c 4 t0_0 : S1x128.Idx → EReal) = V m c main_v19 := by
  have h0 : win0_4.index t0_0 0 = 0 := by decide +kernel
  have h1 : win0_4.index t0_0 1 = 0 := by decide +kernel
  funext i
  blk_ext [Gen.iblk, h0, h1]

/-- The rows. -/
abbrev A0 : S16x1024x768.Idx → EReal := m ((c.tc : Thread nD τ).loc main_arg0)
/-- The projection's weights. -/
abbrev A1 : S3x768.Idx → EReal := m ((c.tc : Thread nD τ).loc main_arg1)
/-- The projection's bias. -/
abbrev A2 : S3.Idx → EReal := m ((c.tc : Thread nD τ).loc main_arg2)
/-- The expansion's weights. -/
abbrev A3 : S768x3.Idx → EReal := m ((c.tc : Thread nD τ).loc main_arg3)
/-- The expansion's bias. -/
abbrev A4 : S768.Idx → EReal := m ((c.tc : Thread nD τ).loc main_arg4)
/-- The raw temperatures. -/
abbrev A5 : S3.Idx → EReal := m ((c.tc : Thread nD τ).loc main_arg5)

/-- The index word of a padded matrix is zero. -/
theorem idx1_zero (i : S1.Idx) : (broadcastInDim S1 ![] bcast_S_S1 (constantI S_ 32 0#32)) i = 0#32 := rfl

/-- Row `1024 i + j` is row `(i, j)`. -/
theorem z_at (i : Fin 16) (j : Fin 1024) (x : Fin 768) :
    (V m c main_v0 : S16384x768.Idx → EReal) (ix2 ⟨i.val * 1024 + j.val, by omega⟩ x) = A0 m c (ix3 i j x) := by
  rw [v0_eq]
  generalize hg : m ((c.tc : Thread nD τ).loc main_arg0) = g
  clean_types
  pointwise
  exact congrFun hg.symm _

/-- The projection's weights on a lane. -/
theorem w_at (x : Fin 768) (k : Fin 128) :
    (iblk m c 0 t0_0 : S768x128.Idx → EReal) (ix2 x k) = if hk : k.val < 3 then A1 m c (ix2 ⟨k.val, hk⟩ x) else (0 : EReal) := by
  rw [iblk0_eq, v4_eq, Pad.scat_w _ _ idx1_zero]
  split
  · pointwise
  · pointwise

/-- The index words of a padded vector are zero. -/
theorem idx2_zero (i : S2.Idx) : concatenate S2 0 [⟨S1, broadcastInDim S1 ![] bcast_S_S1 (constantI S_ 32 0#32)⟩, ⟨S1, broadcastInDim S1 ![] bcast_S_S1 (constantI S_ 32 0#32)⟩] concatenates_S1_S1_S2_d0 i = 0#32 := by
  obtain ⟨k, rfl⟩ : ∃ k : Fin 2, i = ix1 k := ⟨i 0, funext fun a => by fin_cases a; rfl⟩
  pointwise
  exact ite_self _

/-- The projection's bias on a lane. -/
theorem b_at (k : Fin 128) :
    (iblk m c 1 t0_0 : S1x128.Idx → EReal) (ix2 0 k) = if hk : k.val < 3 then A2 m c (ix1 ⟨k.val, hk⟩) else (0 : EReal) := by
  rw [iblk1_eq, v9_eq, Pad.scat_v _ _ idx2_zero]
  split
  · rfl
  · pointwise

/-- The raw temperature on a lane. -/
theorem t_at (k : Fin 128) (hk : k.val < 3) :
    (iblk m c 4 t0_0 : S1x128.Idx → EReal) (ix2 0 k) = A5 m c (ix1 ⟨k.val, hk⟩) := by
  rw [iblk4_eq, v19_eq, Pad.scat_v _ _ idx2_zero, dif_pos hk]

/-- The expansion's weights on a row. -/
theorem o_at (r : Fin 3) (r' : Fin 8) (hr : r.val = r'.val) (k : Fin 768) :
    (iblk m c 2 t0_0 : S8x768.Idx → EReal) (ix2 r' k) = A3 m c (ix2 k r) := by
  rw [iblk2_eq, v13_eq, Pad.scat_o _ _ idx1_zero _ r r' hr]
  pointwise

/-- The expansion's bias. -/
theorem q_at (k : Fin 768) :
    (iblk m c 3 t0_0 : S1x768.Idx → EReal) (ix2 0 k) = A4 m c (ix1 k) := by
  rw [iblk3_eq, v14_eq]
  generalize hg : m ((c.tc : Thread nD τ).loc main_arg4) = g
  clean_types
  pointwise
  exact congrFun hg.symm _

end Cert.Proof.KI
end
-- ==== Proof.KIVal.lean ====
/-
  The kernel's two results read at an index, as the launch's arguments: the lanes past the third hold nothing.
-/
module

public import proofs.«01_k».proof.Proof.KIAt
public import proofs.«01_k».proof.Proof.KIHost
public import Idealize.ShloMosaic.Lib.Pipeline.ValueKit.Acc

@[expose] public section

set_option maxRecDepth 16384

noncomputable section

namespace Cert.Proof.KI

open Cert.KernelIdeal Cert.KernelIdeal.Gen
open Idealize.ShloMosaic Idealize.ShloMosaic.TcCoe Idealize.SL.Sem
open Cert.Proof.Scal

variable (m : (ℓ : Loc nD τ sig) → Buf (Elt Ideal) ℓ) (c : Dev nD)

/-- The projection of row `(i, j)` on code dimension `k`. -/
def pr (i : Fin 16) (j : Fin 1024) (k : Fin 3) : EReal := (∑ x : Fin 768, A0 m c (ix3 i j x) * A1 m c (ix2 k x)) + A2 m c (ix1 k)
/-- Its code. -/
def cd (i : Fin 16) (j : Fin 1024) (k : Fin 3) : EReal := code (pr m c i j k) (sp (A5 m c (ix1 k)))

/-- On the first three lanes the kernel projects as the arguments say. -/
theorem proj_at (i : Fin 16) (j : Fin 1024) (k : Fin 128) (hk : k.val < 3) :
    proj (V m c main_v0) (iblk m c 0 t0_0) (iblk m c 1 t0_0) ⟨i.val * 1024 + j.val, by omega⟩ k = pr m c i j ⟨k.val, hk⟩ := by
  unfold proj pr
  rw [b_at, dif_pos hk]
  refine congrArg (· + _) (Finset.sum_congr rfl fun x _ => ?_)
  rw [z_at, w_at, dif_pos hk]

/-- On the other lanes it projects on nothing. -/
theorem proj_pad (r : Fin 16384) (k : Fin 128) (hk : ¬ k.val < 3) :
    proj (V m c main_v0) (iblk m c 0 t0_0) (iblk m c 1 t0_0) r k = 0 := by
  unfold proj
  rw [b_at, dif_neg hk, add_zero]
  refine Finset.sum_eq_zero fun x _ => ?_
  rw [w_at, dif_neg hk, mul_zero]

/-- The first result at one place. -/
theorem res_at (i : Fin 16) (j : Fin 1024) (k : Fin 768) :
    shapeCast S16x1024x768 (RES m c) shapeCasts_S16384x768_S16x1024x768 (ix3 i j k)
      = (∑ x : Fin 3, cd m c i j x * A3 m c (ix2 k x)) + A4 m c (ix1 k) := by
  unfold RES
  rw [resBuf_at, proj_at m c i j 0 (by decide), proj_at m c i j 1 (by decide), proj_at m c i j 2 (by decide),
    t_at m c 0 (by decide), t_at m c 1 (by decide), t_at m c 2 (by decide), o_at m c 0 0 rfl, o_at m c 1 1 rfl, o_at m c 2 2 rfl, q_at, Fin.sum_univ_three]
  rfl

/-- A lane past the third adds nothing to the error. -/
theorem sq_pad (r : Fin 16384) (k : Fin 128) (hk : ¬ k.val < 3) :
    sq (V m c main_v0) (iblk m c 0 t0_0) (iblk m c 1 t0_0) (iblk m c 4 t0_0) r k = 0 := by
  unfold sq
  rw [proj_pad m c r k hk, code_zero]
  simp

/-- The first three lanes add the squared distances. -/
theorem sq_at (i : Fin 16) (j : Fin 1024) (k : Fin 128) (hk : k.val < 3) :
    sq (V m c main_v0) (iblk m c 0 t0_0) (iblk m c 1 t0_0) (iblk m c 4 t0_0) ⟨i.val * 1024 + j.val, by omega⟩ k
      = (pr m c i j ⟨k.val, hk⟩ - cd m c i j ⟨k.val, hk⟩) * (pr m c i j ⟨k.val, hk⟩ - cd m c i j ⟨k.val, hk⟩) := by
  unfold sq
  rw [proj_at m c i j k hk, t_at m c k hk]
  rfl

/-- A sum over the lanes, of which only the first three count. -/
theorem sum_lanes (f : Fin 128 → EReal) (h : ∀ k : Fin 128, ¬ k.val < 3 → f k = 0) :
    ∑ k : Fin 128, f k = ∑ k : Fin 3, f ⟨k.val, by omega⟩ := by
  refine ((Fin.sum_univ_add (a := 3) (b := 125) f).trans ?_)
  rw [Finset.sum_eq_zero (s := Finset.univ) (f := fun k : Fin 125 => f (Fin.natAdd 3 k)) (fun k _ => h _ (by simp)), add_zero]
  rfl

/-- The sum over all rows, block by block, is the sum over the rows of each batch. -/
theorem sum_rows (f : Fin 16384 → EReal) :
    ∑ b ∈ Finset.range 8, ∑ r : Fin 2048, f ⟨2048 * (Ring.bk 8 b).val + r.val, by omega⟩
      = ∑ i : Fin 16, ∑ j : Fin 1024, f ⟨i.val * 1024 + j.val, by omega⟩ := by
  have h1 : ∑ b ∈ Finset.range 8, ∑ r : Fin 2048, f ⟨2048 * (Ring.bk 8 b).val + r.val, by omega⟩
      = ∑ b : Fin 8, ∑ r : Fin 2048, f ⟨b.val * 2048 + r.val, by omega⟩ := by
    rw [← Fin.sum_univ_eq_sum_range (fun b => ∑ r : Fin 2048, f ⟨2048 * (Ring.bk 8 b).val + r.val, by have := (Ring.bk 8 b).isLt; omega⟩) 8]
    refine Finset.sum_congr rfl fun b _ => Finset.sum_congr rfl fun r _ => congrArg f (Fin.ext ?_)
    have e : (Ring.bk 8 b.val).val = b.val := by revert b; decide
    show 2048 * (Ring.bk 8 b.val).val + r.val = b.val * 2048 + r.val
    rw [e, mul_comm]
  rw [h1]
  exact (Fin.sum_mul_add_fin (S := 8) (n := 2048) f).trans (Fin.sum_mul_add_fin (S := 16) (n := 1024) f).symm

/-- The second result. -/
theorem err_at : shapeCast S_ (k0_pay19 (errSum m c)) shapeCasts_S1x1_S_
    = fun _ => (∑ i : Fin 16, ∑ j : Fin 1024, ∑ k : Fin 3, (pr m c i j k - cd m c i j k) * (pr m c i j k - cd m c i j k)) * ((1 / 49152 : ℝ) : EReal) := by
  have e : errSum m c = ∑ i : Fin 16, ∑ j : Fin 1024, ∑ k : Fin 3, (pr m c i j k - cd m c i j k) * (pr m c i j k - cd m c i j k) := by
    unfold errSum
    refine (errAt_at c (V m c main_v0) (iblk m c 4 t0_0) (iblk m c 0 t0_0) (iblk m c 1 t0_0) _ 8).trans ?_
    rw [show (Scalar.ofBits .f32 0x00000000#32 : Ideal .f32) = (0 : EReal) from Ideal.ofBits_zero_f32, zero_add,
      sum_rows (fun R => ∑ k : Fin 128, sq (V m c main_v0) (iblk m c 0 t0_0) (iblk m c 1 t0_0) (iblk m c 4 t0_0) R k)]
    refine Finset.sum_congr rfl fun i _ => Finset.sum_congr rfl fun j _ => ?_
    rw [sum_lanes _ (fun k hk => sq_pad m c _ k hk)]
    exact Finset.sum_congr rfl fun k _ => sq_at m c i j _ k.isLt
  rw [e]
  exact pay19_at _

end Cert.Proof.KI
end
-- ==== Proof.RIVal.lean ====
/-
  The reference's two results, in named parts: the projection `zcR`, the temperature `tR`, the codes
  `codesR`, and each part read at one index.
-/
module

public import proofs.«01_k».proof.Proof.Gen.ReferenceIdeal.Run
public import Idealize.ShloMosaic.Lib.Claim
public import Idealize.ShloMosaic.Lib.Pointwise
public import Idealize.ShloMosaic.Lib.Tactic.CleanTypes

@[expose] public section

noncomputable section

namespace Cert.Proof.RI

open Cert.ReferenceIdeal Cert.ReferenceIdeal.Gen Cert.ReferenceIdeal.Value
open Idealize.ShloMosaic Idealize.ShloMosaic.TcCoe Idealize.SL.Sem

/-- The projection of every row of `z` on the three code dimensions, with its bias. -/
def zcR (z : FVec Ideal S16x1024x768 .f32) (w : FVec Ideal S3x768 .f32) (b : FVec Ideal S3 .f32) : FVec Ideal S16x1024x3 .f32 :=
  addf (Host.dotGeneral dot_S16x1024x768_S768x3_S16x1024x3_2_0_01_1_n_n none z (transpose S768x3 [1, 0] w transposes_S3x768_S768x3_1_0))
    (broadcastInDim S16x1024x3 ![0, 1, 2] bcast_S1x1x3_S16x1024x3_0_1_2 (broadcastInDim S1x1x3 ![2] bcast_S3_S1x1x3_2 b))

/-- The temperatures: softplus of the raw ones. -/
def tR (t : FVec Ideal S3 .f32) : FVec Ideal S3 .f32 :=
  select (cmpf .une (subf t (broadcastInDim S3 ![] bcast_S_S3 (constant S_ .f32 0x00000000#32))) (subf t (broadcastInDim S3 ![] bcast_S_S3 (constant S_ .f32 0x00000000#32))))
    (addf t (broadcastInDim S3 ![] bcast_S_S3 (constant S_ .f32 0x00000000#32)))
    (addf (maximumf t (broadcastInDim S3 ![] bcast_S_S3 (constant S_ .f32 0x00000000#32)))
      (Host.log1p (Host.exp (Host.negf (Host.absf (subf t (broadcastInDim S3 ![] bcast_S_S3 (constant S_ .f32 0x00000000#32))))))))

/-- The levels, as floats. -/
def lvR : FVec Ideal S3 .f32 := sitofp .f32 (constantI S3 32 15#32)

/-- Half the range that the bounded value is scaled to. -/
def halfR : FVec Ideal S3 .f32 :=
  Host.divf (mulf (subf lvR (broadcastInDim S3 ![] bcast_S_S3 (constant S_ .f32 0x3F800000#32)))
      (broadcastInDim S3 ![] bcast_S_S3 (addf (constant S_ .f32 0x3F800000#32) (Host.divf (constant S_ .f32 0x3F800000#32) (constant S_ .f32 0x447A0000#32)))))
    (broadcastInDim S3 ![] bcast_S_S3 (constant S_ .f32 0x40000000#32))

/-- The bounded value's half width. -/
def widthR : FVec Ideal S3 .f32 :=
  Host.floor (Host.divf lvR (broadcastInDim S3 ![] bcast_S_S3 (constant S_ .f32 0x40000000#32)))

/-- The divisor of the parity test. -/
def twoR : IVec S_ 32 := select (cmpi .eq (id (constantI S_ 32 2#32)) (constantI S_ 32 0#32)) (constantI S_ 32 1#32) (id (constantI S_ 32 2#32))

/-- The remainder of each level by two, rounded toward zero. -/
def remR : IVec S3 32 := Host.remsi (constantI S3 32 15#32) (broadcastInDim S3 ![] bcast_S_S3 twoR)

/-- The offset: a half where the number of levels is even. -/
def offR : FVec Ideal S3 .f32 :=
  select (cmpi .eq
      (select (andi (cmpi .ne (cmpi .slt remR (broadcastInDim S3 ![] bcast_S_S3 (constantI S_ 32 0#32)))
            (broadcastInDim S3 ![] bcast_S_S3 (cmpi .slt twoR (constantI S_ 32 0#32))))
          (cmpi .ne remR (broadcastInDim S3 ![] bcast_S_S3 (constantI S_ 32 0#32))))
        (addi remR (broadcastInDim S3 ![] bcast_S_S3 twoR)) remR)
      (broadcastInDim S3 ![] bcast_S_S3 (constantI S_ 32 0#32)))
    (broadcastInDim S3 ![] bcast_S_S3 (constant S_ .f32 0x3F000000#32))
    (broadcastInDim S3 ![] bcast_S_S3 (constant S_ .f32 0x00000000#32))

/-- One number for each code dimension, for every row. -/
def bcR (x : FVec Ideal S3 .f32) : FVec Ideal S16x1024x3 .f32 :=
  broadcastInDim S16x1024x3 ![0, 1, 2] bcast_S1x1x3_S16x1024x3_0_1_2 (broadcastInDim S1x1x3 ![2] bcast_S3_S1x1x3_2 x)

/-- The bounded value. -/
def zbR (zc : FVec Ideal S16x1024x3 .f32) (t : FVec Ideal S3 .f32) : FVec Ideal S16x1024x3 .f32 :=
  subf (mulf (Host.tanh (addf (Host.divf zc (bcR t)) (bcR (Host.atanh (Host.divf (id offR) halfR))))) (bcR halfR)) (bcR (id offR))

/-- The codes. -/
def codesR (zc : FVec Ideal S16x1024x3 .f32) (t : FVec Ideal S3 .f32) : FVec Ideal S16x1024x3 .f32 :=
  mulf (Host.divf (addf (zbR zc t) (subf (Host.roundeven (zbR zc t)) (zbR zc t))) (bcR widthR)) (bcR t)

/-- The mean squared error. -/
def errR (zc codes : FVec Ideal S16x1024x3 .f32) : FVec Ideal S_ .f32 :=
  Host.divf (Host.reduceAdd (mulf (subf zc codes) (subf zc codes)) (constant S_ .f32 0x00000000#32) reducesTo_S16x1024x3_S_d0_1_2 h_S_)
    (constant S_ .f32 0x47400000#32)

/-- The expanded result. -/
def zqR (codes : FVec Ideal S16x1024x3 .f32) (w : FVec Ideal S768x3 .f32) (b : FVec Ideal S768 .f32) : FVec Ideal S16x1024x768 .f32 :=
  addf (Host.dotGeneral dot_S16x1024x3_S3x768_S16x1024x768_2_0_01_1_n_n none codes (transpose S3x768 [1, 0] w transposes_S768x3_S3x768_1_0))
    (broadcastInDim S16x1024x768 ![0, 1, 2] bcast_S1x1x768_S16x1024x768_0_1_2 (broadcastInDim S1x1x768 ![2] bcast_S768_S1x1x768_2 b))

variable (m : (ℓ : Loc nD τ sig) → Buf (Elt Ideal) ℓ) (c : Dev nD)

/-- The projection of the launch's arguments. -/
def zcM : FVec Ideal S16x1024x3 .f32 :=
  zcR (m ((c.tc : Thread nD τ).loc main_arg0)) (m ((c.tc : Thread nD τ).loc main_arg1)) (m ((c.tc : Thread nD τ).loc main_arg2))

/-- The codes of the launch's arguments. -/
def codesM : FVec Ideal S16x1024x3 .f32 := codesR (zcM m c) (tR (m ((c.tc : Thread nD τ).loc main_arg5)))

set_option maxRecDepth 8192 in
theorem err_eq : res_out1 (F := Ideal) m c = errR (zcM m c) (codesM m c) := rfl

set_option maxRecDepth 8192 in
theorem zq_eq : res_out0 (F := Ideal) m c
    = zqR (codesM m c) (m ((c.tc : Thread nD τ).loc main_arg3)) (m ((c.tc : Thread nD τ).loc main_arg4)) := rfl

end Cert.Proof.RI
end
-- ==== Proof.RIAt.lean ====
/-
  The reference's parts read at one index, and its codes as the scalar code of the projection.
-/
module

public import proofs.«01_k».proof.Proof.RIVal
public import proofs.«01_k».proof.Proof.Scal

@[expose] public section

set_option maxRecDepth 16384

noncomputable section

namespace Cert.Proof.RI

open Cert.ReferenceIdeal Cert.ReferenceIdeal.Gen Cert.ReferenceIdeal.Value
open Idealize.ShloMosaic Idealize.ShloMosaic.TcCoe Idealize.SL.Sem
open Cert.Proof.Scal

/-- The projection at one row and one code dimension. -/
theorem zc_at (z : FVec Ideal S16x1024x768 .f32) (w : FVec Ideal S3x768 .f32) (b : FVec Ideal S3 .f32) (i : Fin 16) (j : Fin 1024) (k : Fin 3) :
    zcR z w b (ix3 i j k) = (∑ x : Fin 768, z (ix3 i j x) * w (ix2 k x)) + b (ix1 k) := by
  pointwise [zcR]

/-- The temperature is the softplus of the raw one. -/
theorem t_at (t : FVec Ideal S3 .f32) (k : Fin 3) : tR t (ix1 k) = sp (t (ix1 k)) := by
  pointwise [tR]
  rw [if_neg (fun h => h rfl)]
  rfl

/-- Half the range is 7.007. -/
theorem half_at (k : Fin 3) : halfR (ix1 k) = half := by
  pointwise [halfR, lvR]
  rw [lit_1000, lit_2, div_coe _ 1000 (by norm_num), div_coe _ 2 (by norm_num)]
  show ((((15#32 : BitVec 32).toInt : ℝ) : EReal) - 1) * (1 + 1 * _) * _ = half
  rw [show (15#32 : BitVec 32).toInt = 15 from rfl, half, ← EReal.coe_one, ← EReal.coe_sub, ← EReal.coe_mul, ← EReal.coe_add, ← EReal.coe_mul, ← EReal.coe_mul]
  norm_num

/-- The half width is 7. -/
theorem width_at (k : Fin 3) : widthR (ix1 k) = ((7 : ℝ) : EReal) := by
  pointwise [widthR, lvR]
  rw [lit_2, div_coe _ 2 (by norm_num)]
  show Ideal.liftRound Int.floor ((((15#32 : BitVec 32).toInt : ℝ) : EReal) * _) = _
  rw [show (15#32 : BitVec 32).toInt = 15 from rfl, ← EReal.coe_mul]
  show (((⌊((15 : ℤ) : ℝ) * (1 / 2)⌋ : ℤ) : ℝ) : EReal) = _
  rw [show ⌊((15 : ℤ) : ℝ) * (1 / 2)⌋ = 7 by rw [Int.floor_eq_iff]; norm_num]
  norm_num

/-- Fifteen levels are an odd number: no offset. -/
theorem off_at (k : Fin 3) : offR (ix1 k) = 0 := by
  pointwise [offR, remR, twoR]
  refine if_neg ?_
  decide

/-- A code of the reference is the scalar code of its projection. -/
theorem code_at (zc : FVec Ideal S16x1024x3 .f32) (t : FVec Ideal S3 .f32) (i : Fin 16) (j : Fin 1024) (k : Fin 3) :
    codesR zc t (ix3 i j k) = code (zc (ix3 i j k)) (t (ix1 k)) := by
  have hb : zbR zc t (ix3 i j k) = Ideal.tanh (Ideal.div (zc (ix3 i j k)) (t (ix1 k))) * half := by
    pointwise [zbR, bcR]
    rw [show id offR (ix1 k) = 0 from off_at k, half_at k]
    have h : half ≠ 0 := by rw [half]; exact_mod_cast (by norm_num : (7007 / 1000 : ℝ) ≠ 0)
    rw [show Ideal.div 0 half = 0 by rw [Ideal.div, if_neg h, zero_mul], atanh_zero, add_zero, sub_zero]
  have e : codesR zc t (ix3 i j k) = Ideal.div (zbR zc t (ix3 i j k) + (Ideal.liftRound Ideal.roundHalfEven (zbR zc t (ix3 i j k)) - zbR zc t (ix3 i j k))) (widthR (ix1 k)) * t (ix1 k) := by
    pointwise [codesR, bcR]
  rw [e, width_at]
  exact code_ref _ _ _ hb

/-- The error is the mean of the squared distances. -/
theorem err_at (zc t : FVec Ideal S16x1024x3 .f32) :
    errR zc t ix0 = (∑ i : Fin 16, ∑ j : Fin 1024, ∑ k : Fin 3, (zc (ix3 i j k) - t (ix3 i j k)) * (zc (ix3 i j k) - t (ix3 i j k))) * ((1 / 49152 : ℝ) : EReal) := by
  rw [← div_coe _ 49152 (by norm_num), ← lit_n]
  pointwise [errR]

/-- The expanded result at one place. -/
theorem zq_at (codes : FVec Ideal S16x1024x3 .f32) (w : FVec Ideal S768x3 .f32) (b : FVec Ideal S768 .f32) (i : Fin 16) (j : Fin 1024) (k : Fin 768) :
    zqR codes w b (ix3 i j k) = (∑ x : Fin 3, codes (ix3 i j x) * w (ix2 k x)) + b (ix1 k) := by
  pointwise [zqR]

end Cert.Proof.RI
end
-- ==== Proof.Pair.lean ====
/-
  The kernel's results are the reference's, where the arguments agree.
-/
module

public import proofs.«01_k».proof.Proof.KIVal
public import proofs.«01_k».proof.Proof.RIAt

@[expose] public section

set_option maxRecDepth 16384

noncomputable section

namespace Cert.Proof.Pair

open Idealize.ShloMosaic Idealize.ShloMosaic.TcCoe Idealize.SL.Sem
open Cert.Proof.Scal

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two launches' arguments agree. -/
structure Agree : Prop where
  h0 : (m' ((c.tc : Thread Cert.ReferenceIdeal.nD Cert.ReferenceIdeal.τ).loc Cert.ReferenceIdeal.main_arg0) : Cert.KernelIdeal.S16x1024x768.Idx → EReal) = KI.A0 m c
  h1 : (m' ((c.tc : Thread Cert.ReferenceIdeal.nD Cert.ReferenceIdeal.τ).loc Cert.ReferenceIdeal.main_arg1) : Cert.KernelIdeal.S3x768.Idx → EReal) = KI.A1 m c
  h2 : (m' ((c.tc : Thread Cert.ReferenceIdeal.nD Cert.ReferenceIdeal.τ).loc Cert.ReferenceIdeal.main_arg2) : Cert.KernelIdeal.S3.Idx → EReal) = KI.A2 m c
  h3 : (m' ((c.tc : Thread Cert.ReferenceIdeal.nD Cert.ReferenceIdeal.τ).loc Cert.ReferenceIdeal.main_arg3) : Cert.KernelIdeal.S768x3.Idx → EReal) = KI.A3 m c
  h4 : (m' ((c.tc : Thread Cert.ReferenceIdeal.nD Cert.ReferenceIdeal.τ).loc Cert.ReferenceIdeal.main_arg4) : Cert.KernelIdeal.S768.Idx → EReal) = KI.A4 m c
  h5 : (m' ((c.tc : Thread Cert.ReferenceIdeal.nD Cert.ReferenceIdeal.τ).loc Cert.ReferenceIdeal.main_arg5) : Cert.KernelIdeal.S3.Idx → EReal) = KI.A5 m c

variable {m m' c}

/-- The projections agree. -/
theorem zc_pair (h : Agree m m' c) (i : Fin 16) (j : Fin 1024) (k : Fin 3) : RI.zcM m' c (ix3 i j k) = KI.pr m c i j k := by
  unfold RI.zcM KI.pr
  rw [RI.zc_at, ← h.h0, ← h.h1, ← h.h2]

/-- The codes agree. -/
theorem code_pair (h : Agree m m' c) (i : Fin 16) (j : Fin 1024) (k : Fin 3) : RI.codesM m' c (ix3 i j k) = KI.cd m c i j k := by
  unfold RI.codesM KI.cd
  rw [RI.code_at, RI.t_at, zc_pair h, ← h.h5]

/-- The expanded result. -/
theorem zq_pair (h : Agree m m' c) :
    shapeCast Cert.KernelIdeal.S16x1024x768 (KI.RES m c) Cert.KernelIdeal.Gen.shapeCasts_S16384x768_S16x1024x768 = (Cert.ReferenceIdeal.Value.res_out0 (F := Ideal) m' c : Cert.KernelIdeal.S16x1024x768.Idx → EReal) := by
  rw [RI.zq_eq]
  funext y
  obtain ⟨i, j, k, rfl⟩ : ∃ (i : Fin 16) (j : Fin 1024) (k : Fin 768), y = ix3 i j k := ⟨y 0, y 1, y 2, funext fun a => by fin_cases a <;> rfl⟩
  refine (KI.res_at m c i j k).trans ((RI.zq_at _ _ _ i j k).trans ?_).symm
  simp only [code_pair h]
  rw [← h.h3, ← h.h4]

/-- The mean squared error. -/
theorem err_pair (h : Agree m m' c) :
    shapeCast Cert.KernelIdeal.S_ (Cert.KernelIdeal.Gen.k0_pay19 (KI.errSum m c)) Cert.KernelIdeal.Gen.shapeCasts_S1x1_S_ = (Cert.ReferenceIdeal.Value.res_out1 (F := Ideal) m' c : Cert.KernelIdeal.S_.Idx → EReal) := by
  rw [RI.err_eq, KI.err_at]
  funext y
  obtain rfl : y = ix0 := funext fun a => a.elim0
  refine ((RI.err_at _ _).trans ?_).symm
  simp only [code_pair h, zc_pair h]

end Cert.Proof.Pair
end
-- ==== Proof.lean ====
/-
  The five claims: the kernel and its idealisation run and leave their arguments alone, so does the reference, the
  named constants are what the table says, and the idealised kernel's two results are the reference's.
-/
module

public import proofs.«01_k».proof.Proof.Gen.ReferenceIdeal.Run
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KPEnd
public import proofs.«01_k».proof.Proof.KIEnd
public import proofs.«01_k».proof.Proof.Pair
public import Idealize.ShloMosaic.Lib.Quiescent

@[expose] public section

noncomputable section

namespace Cert.Proof

open Idealize.ShloMosaic Idealize.ShloMosaic.TcCoe Idealize.SL.Sem

/-- The kernel's frame. -/
theorem frame_kernel : Cert.quiescent_Kernel := fun m g _ =>
  (θ_run _ _ _).mono (fun _ h => ⟨fun c => (h.1 c).2.2, h.2⟩) (KP.run_end (F := Bits) m g)

/-- The idealised kernel's frame. -/
theorem frame_kernelIdeal : Cert.quiescent_KernelIdeal := fun m g _ =>
  (θ_run _ _ _).mono (fun _ h => ⟨fun c => (h.1 c).2.2, h.2⟩) (KI.run_end (F := Ideal) m g)

/-- The reference's frame: it declares no semaphore. -/
theorem frame_reference : Cert.quiescent_ReferenceIdeal := fun m g _ =>
  (θ_run _ _ _).mono (fun r h => ⟨fun c => (h c).2.2, sem_eq_zero_of_no_sems (by decide) r.2⟩)
    (Cert.ReferenceIdeal.Value.run (F := Ideal) m g)

/-- The three named constants. -/
theorem preserves : Cert.preserves_Kernel_KernelIdeal :=
  ⟨IdealRules.named_const.statement Cert.KernelIdeal.κ "inv_half_width" .f32 0x3E124925#32 ((1 / 7 : ℝ) : EReal) rfl,
    IdealRules.named_const.statement Cert.KernelIdeal.κ "half_l" .f32 0x40E03958#32 ((7007 / 1000 : ℝ) : EReal) rfl,
    IdealRules.named_const.statement Cert.KernelIdeal.κ "inv_n" .f32 0x37AAAAAB#32 ((1 / 49152 : ℝ) : EReal) rfl⟩

/-- The idealised kernel computes the reference's two results. -/
theorem algebraic : Cert.algebraic_KernelIdeal_ReferenceIdeal := fun m g m' g' _ hA => by
  have hag : ∀ c, Pair.Agree m m' c := fun c => ⟨(hA c).1, (hA c).2.1, (hA c).2.2.1, (hA c).2.2.2.1, (hA c).2.2.2.2.1, (hA c).2.2.2.2.2⟩
  refine ⟨fun c => Cert.ReferenceIdeal.Value.res_out0 (F := Ideal) m' c, fun c => Cert.ReferenceIdeal.Value.res_out1 (F := Ideal) m' c, ?_,
    Cert.ReferenceIdeal.Value.run (F := Ideal) m' g'⟩
  refine (θ_run _ _ _).mono (fun _ h c => ?_) (KI.run_end (F := Ideal) m g)
  exact ⟨(h.1 c).1.trans (Pair.zq_pair (hag c)), (h.1 c).2.1.trans (Pair.err_pair (hag c)), (h.1 c).2.2⟩

theorem claim : Cert.Claim := ⟨Cert.Kernel.Gen.facts, Cert.KernelIdeal.Gen.facts, Cert.ReferenceIdeal.Gen.facts,
  frame_kernel, frame_kernelIdeal, frame_reference, preserves, algebraic⟩

end Cert.Proof

end
